-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_and_finite : Cert.Pre_in_range_and_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range.lean ====
abbrev S4096x26 : Shape := ⟨2, ![4096, 26]⟩
abbrev S4096x13 : Shape := ⟨2, ![4096, 13]⟩
abbrev S13x1000x50 : Shape := ⟨3, ![13, 1000, 50]⟩
abbrev S13x100000x50 : Shape := ⟨3, ![13, 100000, 50]⟩
abbrev S512x1313 : Shape := ⟨2, ![512, 1313]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S4096x26 : S_.BroadcastsInDim S4096x26 (![] : Fin 0 → Fin S4096x26.rank)

variable [Facts]

def fn {F : FTy → Type} [FloatOps F] (main_arg0 : IVec S4096x26 32) (main_arg1 : FVec F S4096x13 .f32) (main_arg2 : FVec F S13x1000x50 .f32) (main_arg3 : FVec F S13x100000x50 .f32) (main_arg4 : FVec F S512x1313 .f32) (main_arg5 : FVec F S512 .f32) (main_arg6 : FVec F S512 .f32) (main_arg7 : FVec F S512 .f32) (main_arg8 : FVec F S256x512 .f32) (main_arg9 : FVec F S256 .f32) (main_arg10 : FVec F S128x256 .f32) (main_arg11 : FVec F S128 .f32) (main_arg12 : FVec F S1x128 .f32) (main_arg13 : FVec F S1 .f32) : IVec S4096x26 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 1000#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  main_v4
-- ==== Pre_in_range_and_finite.lean ====
abbrev S4096x26 : Shape := ⟨2, ![4096, 26]⟩
abbrev S4096x13 : Shape := ⟨2, ![4096, 13]⟩
abbrev S13x1000x50 : Shape := ⟨3, ![13, 1000, 50]⟩
abbrev S13x100000x50 : Shape := ⟨3, ![13, 100000, 50]⟩
abbrev S512x1313 : Shape := ⟨2, ![512, 1313]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S4096x26 : S_.BroadcastsInDim S4096x26 (![] : Fin 0 → Fin S4096x26.rank)
  bcast_S_S512 : S_.BroadcastsInDim S512 (![] : Fin 0 → Fin S512.rank)
  bcast_S_S256x512 : S_.BroadcastsInDim S256x512 (![] : Fin 0 → Fin S256x512.rank)

variable [Facts]

def fn {F : FTy → Type} [FloatOps F] (main_arg0 : IVec S4096x26 32) (main_arg1 : FVec F S4096x13 .f32) (main_arg2 : FVec F S13x1000x50 .f32) (main_arg3 : FVec F S13x100000x50 .f32) (main_arg4 : FVec F S512x1313 .f32) (main_arg5 : FVec F S512 .f32) (main_arg6 : FVec F S512 .f32) (main_arg7 : FVec F S512 .f32) (main_arg8 : FVec F S256x512 .f32) (main_arg9 : FVec F S256 .f32) (main_arg10 : FVec F S128x256 .f32) (main_arg11 : FVec F S128 .f32) (main_arg12 : FVec F S1x128 .f32) (main_arg13 : FVec F S1 .f32) : IVec S4096x26 1 × IVec S512 1 × IVec S256x512 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 1000#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  let main_v5 : FVec F S512 .f32 := Host.absf main_arg7
  let main_cst : FVec F S_ .f32 := constant S_ .f32 0x7F800000#32
  let main_v6 : FVec F S512 .f32 := broadcastInDim S512 ![] bcast_S_S512 main_cst
  let main_v7 : IVec S512 1 := cmpf .olt main_v5 main_v6
  let main_v8 : FVec F S256x512 .f32 := Host.absf main_arg8
  let main_cst_1 : FVec F S_ .f32 := constant S_ .f32 0x7F800000#32
  let main_v9 : FVec F S256x512 .f32 := broadcastInDim S256x512 ![] bcast_S_S256x512 main_cst_1
  let main_v10 : IVec S256x512 1 := cmpf .olt main_v8 main_v9
  (main_v4, main_v7, main_v10)
-- ==== Kernel.lean ====
abbrev S4096x26 : Shape := ⟨2, ![4096, 26]⟩
abbrev S4096x13 : Shape := ⟨2, ![4096, 13]⟩
abbrev S13x1000x50 : Shape := ⟨3, ![13, 1000, 50]⟩
abbrev S13x100000x50 : Shape := ⟨3, ![13, 100000, 50]⟩
abbrev S512x1313 : Shape := ⟨2, ![512, 1313]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩
abbrev S13x1000x128 : Shape := ⟨3, ![13, 1000, 128]⟩
abbrev S13000x128 : Shape := ⟨2, ![13000, 128]⟩
abbrev S13x100000x128 : Shape := ⟨3, ![13, 100000, 128]⟩
abbrev S1300000x128 : Shape := ⟨2, ![1300000, 128]⟩
abbrev S1313000x128 : Shape := ⟨2, ![1313000, 128]⟩
abbrev S13 : Shape := ⟨1, ![13]⟩
abbrev S13x1 : Shape := ⟨2, ![13, 1]⟩
abbrev S26x4096 : Shape := ⟨2, ![26, 4096]⟩
abbrev S13x4096 : Shape := ⟨2, ![13, 4096]⟩
abbrev S106496 : Shape := ⟨1, ![106496]⟩
abbrev S1x512 : Shape := ⟨2, ![1, 512]⟩
abbrev S512x256 : Shape := ⟨2, ![512, 256]⟩
abbrev S512x1300 : Shape := ⟨2, ![512, 1300]⟩
abbrev S1300x512 : Shape := ⟨2, ![1300, 512]⟩
abbrev S26x50x512 : Shape := ⟨3, ![26, 50, 512]⟩
abbrev S26x128x512 : Shape := ⟨3, ![26, 128, 512]⟩
abbrev S512x13 : Shape := ⟨2, ![512, 13]⟩
abbrev S13x512 : Shape := ⟨2, ![13, 512]⟩
abbrev S26x4096x128 : Shape := ⟨3, ![26, 4096, 128]⟩
abbrev S128x128 : Shape := ⟨2, ![128, 128]⟩
abbrev S1x128x128 : Shape := ⟨3, ![1, 128, 128]⟩
abbrev S1x256 : Shape := ⟨2, ![1, 256]⟩
abbrev S256x128 : Shape := ⟨2, ![256, 128]⟩
abbrev S128x1 : Shape := ⟨2, ![128, 1]⟩
abbrev S4096x1 : Shape := ⟨2, ![4096, 1]⟩
abbrev S26x512x128 : Shape := ⟨3, ![26, 512, 128]⟩
abbrev S512x1 : Shape := ⟨2, ![512, 1]⟩
abbrev S512x512 : Shape := ⟨2, ![512, 512]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S4096 : Shape := ⟨1, ![4096]⟩

abbrev nBuf : Table → Nat
  | .hbm => 89
  | .local .tc .vmem => 15
  | .local .scVector .vmem => 2
  | _ => 0

abbrev bufTy : (tb : Table) → Fin (nBuf tb) → BufTy
  | .hbm, ⟨0, _⟩ => ⟨S4096x26, .i32⟩
  | .hbm, ⟨1, _⟩ => ⟨S4096x13, .f32⟩
  | .hbm, ⟨2, _⟩ => ⟨S13x1000x50, .f32⟩
  | .hbm, ⟨3, _⟩ => ⟨S13x100000x50, .f32⟩
  | .hbm, ⟨4, _⟩ => ⟨S512x1313, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S13x1000x50, .f32⟩
  | .hbm, ⟨21, _⟩ => ⟨S13x1000x50, .f32⟩
  | .hbm, ⟨22, _⟩ => ⟨S_, .i32⟩
  | .hbm, ⟨23, _⟩ => ⟨S_, .f32⟩
  | .hbm, ⟨24, _⟩ => ⟨S13x1000x128, .f32⟩
  | .hbm, ⟨25, _⟩ => ⟨S13000x128, .f32⟩
  | .hbm, ⟨26, _⟩ => ⟨S13x100000x50, .f32⟩
  | .hbm, ⟨27, _⟩ => ⟨S13x100000x50, .f32⟩
  | .hbm, ⟨28, _⟩ => ⟨S_, .i32⟩
  | .hbm, ⟨29, _⟩ => ⟨S_, .f32⟩
  | .hbm, ⟨30, _⟩ => ⟨S13x100000x128, .f32⟩
  | .hbm, ⟨31, _⟩ => ⟨S1300000x128, .f32⟩
  | .hbm, ⟨32, _⟩ => ⟨S1313000x128, .f32⟩
  | .hbm, ⟨33, _⟩ => ⟨S13, .i32⟩
  | .hbm, ⟨34, _⟩ => ⟨S_, .i32⟩
  | .hbm, ⟨35, _⟩ => ⟨S13, .i32⟩
  | .hbm, ⟨36, _⟩ => ⟨S13, .i32⟩
  | .hbm, ⟨37, _⟩ => ⟨S13x1, .i32⟩
  | .hbm, ⟨38, _⟩ => ⟨S13, .i32⟩
  | .hbm, ⟨39, _⟩ => ⟨S_, .i32⟩
  | .hbm, ⟨40, _⟩ => ⟨S13, .i32⟩
  | .hbm, ⟨41, _⟩ => ⟨S13, .i32⟩
  | .hbm, ⟨42, _⟩ => ⟨S13x1, .i32⟩
  | .hbm, ⟨43, _⟩ => ⟨S_, .i32⟩
  | .hbm, ⟨44, _⟩ => ⟨S13x1, .i32⟩
  | .hbm, ⟨45, _⟩ => ⟨S13x1, .i32⟩
  | .hbm, ⟨46, _⟩ => ⟨S26x4096, .i32⟩
  | .hbm, ⟨47, _⟩ => ⟨S13x4096, .i32⟩
  | .hbm, ⟨48, _⟩ => ⟨S13x4096, .i32⟩
  | .hbm, ⟨49, _⟩ => ⟨S13x4096, .i32⟩
  | .hbm, ⟨50, _⟩ => ⟨S13x4096, .i32⟩
  | .hbm, ⟨51, _⟩ => ⟨S13x4096, .i32⟩
  | .hbm, ⟨52, _⟩ => ⟨S13x4096, .i32⟩
  | .hbm, ⟨53, _⟩ => ⟨S26x4096, .i32⟩
  | .hbm, ⟨54, _⟩ => ⟨S106496, .i32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S1x512, .f32⟩
  | .hbm, ⟨61, _⟩ => ⟨S256x512, .f32⟩
  | .hbm, ⟨62, _⟩ => ⟨S256x512, .f32⟩
  | .hbm, ⟨63, _⟩ => ⟨S512x256, .f32⟩
  | .hbm, ⟨64, _⟩ => ⟨S512x256, .bf16⟩
  | .hbm, ⟨65, _⟩ => ⟨S256, .f32⟩
  | .hbm, ⟨66, _⟩ => ⟨S256, .f32⟩
  | .hbm, ⟨67, _⟩ => ⟨S512x1300, .f32⟩
  | .hbm, ⟨68, _⟩ => ⟨S1300x512, .f32⟩
  | .hbm, ⟨69, _⟩ => ⟨S26x50x512, .f32⟩
  | .hbm, ⟨70, _⟩ => ⟨S26x50x512, .bf16⟩
  | .hbm, ⟨71, _⟩ => ⟨S_, .i32⟩
  | .hbm, ⟨72, _⟩ => ⟨S_, .bf16⟩
  | .hbm, ⟨73, _⟩ => ⟨S26x128x512, .bf16⟩
  | .hbm, ⟨74, _⟩ => ⟨S512x13, .f32⟩
  | .hbm, ⟨75, _⟩ => ⟨S13x512, .f32⟩
  | .hbm, ⟨76, _⟩ => ⟨S13x512, .bf16⟩
  | .hbm, ⟨77, _⟩ => ⟨S26x4096x128, .f32⟩
  | .hbm, ⟨78, _⟩ => ⟨S4096x13, .bf16⟩
  | .hbm, ⟨79, _⟩ => ⟨S1x512, .f32⟩
  | .hbm, ⟨80, _⟩ => ⟨S1x256, .f32⟩
  | .hbm, ⟨81, _⟩ => ⟨S256x128, .f32⟩
  | .hbm, ⟨82, _⟩ => ⟨S256x128, .bf16⟩
  | .hbm, ⟨83, _⟩ => ⟨S1x128, .f32⟩
  | .hbm, ⟨84, _⟩ => ⟨S128x1, .f32⟩
  | .hbm, ⟨85, _⟩ => ⟨S128x1, .bf16⟩
  | .hbm, ⟨86, _⟩ => ⟨S1x1, .f32⟩
  | .hbm, ⟨87, _⟩ => ⟨S4096x1, .f32⟩
  | .hbm, ⟨88, _⟩ => ⟨S4096, .f32⟩
  | .local .tc .vmem, ⟨0, _⟩ => ⟨S26x512x128, .f32⟩
  | .local .tc .vmem, ⟨1, _⟩ => ⟨S26x512x128, .f32⟩
  | .local .tc .vmem, ⟨2, _⟩ => ⟨S512x13, .bf16⟩
  | .local .tc .vmem, ⟨3, _⟩ => ⟨S512x13, .bf16⟩
  | .local .tc .vmem, ⟨4, _⟩ => ⟨S26x128x512, .bf16⟩
  | .local .tc .vmem, ⟨5, _⟩ => ⟨S13x512, .bf16⟩
  | .local .tc .vmem, ⟨6, _⟩ => ⟨S1x512, .f32⟩
  | .local .tc .vmem, ⟨7, _⟩ => ⟨S512x256, .bf16⟩
  | .local .tc .vmem, ⟨8, _⟩ => ⟨S1x256, .f32⟩
  | .local .tc .vmem, ⟨9, _⟩ => ⟨S256x128, .bf16⟩
  | .local .tc .vmem, ⟨10, _⟩ => ⟨S1x128, .f32⟩
  | .local .tc .vmem, ⟨11, _⟩ => ⟨S128x1, .bf16⟩
  | .local .tc .vmem, ⟨12, _⟩ => ⟨S1x1, .f32⟩
  | .local .tc .vmem, ⟨13, _⟩ => ⟨S512x1, .f32⟩
  | .local .tc .vmem, ⟨14, _⟩ => ⟨S512x1, .f32⟩
  | .local .scVector .vmem, ⟨0, _⟩ => ⟨S128, .i32⟩
  | .local .scVector .vmem, ⟨1, _⟩ => ⟨S128x128, .f32⟩
  | _, _ => ⟨S4096x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 68 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTables nBuf rfl bufTy 4 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_call1_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_call2_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v12_scv : Ref sig .scVector := ⟨.hbm, 32, rfl⟩
abbrev main_v31_scv : Ref sig .scVector := ⟨.hbm, 54, rfl⟩
abbrev main_v51_scv : Ref sig .scVector := ⟨.hbm, 77, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg11_1 : Ref sig .tc := ⟨.vmem, 14, rfl⟩
abbrev cc0_scratch0 : Ref sig .scVector := ⟨.vmem, 0, rfl⟩
abbrev cc0_scratch1 : Ref sig .scVector := ⟨.vmem, 1, rfl⟩
abbrev cc1_sem0_0 : DmaSem sig := 53
abbrev cc1_sem0_1 : DmaSem sig := 54
abbrev cc1_sem1_0 : DmaSem sig := 55
abbrev cc1_sem1_1 : DmaSem sig := 56
abbrev cc1_sem2_0 : DmaSem sig := 57
abbrev cc1_sem3_0 : DmaSem sig := 58
abbrev cc1_sem4_0 : DmaSem sig := 59
abbrev cc1_sem5_0 : DmaSem sig := 60
abbrev cc1_sem6_0 : DmaSem sig := 61
abbrev cc1_sem7_0 : DmaSem sig := 62
abbrev cc1_sem8_0 : DmaSem sig := 63
abbrev cc1_sem9_0 : DmaSem sig := 64
abbrev cc1_sem10_0 : DmaSem sig := 65
abbrev cc1_sem11_0 : DmaSem sig := 66
abbrev cc1_sem11_1 : DmaSem sig := 67
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  ![v3.toNat]
def k0_off2 (i : grid0.Coords) : Fin 3 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r1 : BitVec 32 := 0#32
  ![0, v2.toNat, 0]
def k0_off3 (i : grid0.Coords) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r3 : BitVec 32 := 0#32
  ![1, v2.toNat, 0]
def k0_off4 (i : grid0.Coords) : Fin 3 → Nat :=
  let c2_i32_13 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r5 : BitVec 32 := 0#32
  ![2, v2.toNat, 0]
def k0_off5 (i : grid0.Coords) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r7 : BitVec 32 := 0#32
  ![3, v2.toNat, 0]
def k0_off6 (i : grid0.Coords) : Fin 3 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r9 : BitVec 32 := 0#32
  ![4, v2.toNat, 0]
def k0_off7 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r11 : BitVec 32 := 0#32
  ![5, v2.toNat, 0]
def k0_off8 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r13 : BitVec 32 := 0#32
  ![6, v2.toNat, 0]
def k0_off9 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r15 : BitVec 32 := 0#32
  ![7, v2.toNat, 0]
def k0_off10 (i : grid0.Coords) : Fin 3 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r17 : BitVec 32 := 0#32
  ![8, v2.toNat, 0]
def k0_off11 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r19 : BitVec 32 := 0#32
  ![9, v2.toNat, 0]
def k0_off12 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r21 : BitVec 32 := 0#32
  ![10, v2.toNat, 0]
def k0_off13 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r23 : BitVec 32 := 0#32
  ![11, v2.toNat, 0]
def k0_off14 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r25 : BitVec 32 := 0#32
  ![12, v2.toNat, 0]
def k0_off15 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r27 : BitVec 32 := 0#32
  ![13, v2.toNat, 0]
def k0_off16 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r29 : BitVec 32 := 0#32
  ![14, v2.toNat, 0]
def k0_off17 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r31 : BitVec 32 := 0#32
  ![15, v2.toNat, 0]
def k0_off18 (i : grid0.Coords) : Fin 3 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r33 : BitVec 32 := 0#32
  ![16, v2.toNat, 0]
def k0_off19 (i : grid0.Coords) : Fin 3 → Nat :=
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r35 : BitVec 32 := 0#32
  ![17, v2.toNat, 0]
def k0_off20 (i : grid0.Coords) : Fin 3 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r37 : BitVec 32 := 0#32
  ![18, v2.toNat, 0]
def k0_off21 (i : grid0.Coords) : Fin 3 → Nat :=
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r39 : BitVec 32 := 0#32
  ![19, v2.toNat, 0]
def k0_off22 (i : grid0.Coords) : Fin 3 → Nat :=
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r41 : BitVec 32 := 0#32
  ![20, v2.toNat, 0]
def k0_off23 (i : grid0.Coords) : Fin 3 → Nat :=
  let c21_i32 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r43 : BitVec 32 := 0#32
  ![21, v2.toNat, 0]
def k0_off24 (i : grid0.Coords) : Fin 3 → Nat :=
  let c22_i32 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r45 : BitVec 32 := 0#32
  ![22, v2.toNat, 0]
def k0_off25 (i : grid0.Coords) : Fin 3 → Nat :=
  let c23_i32 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r47 : BitVec 32 := 0#32
  ![23, v2.toNat, 0]
def k0_off26 (i : grid0.Coords) : Fin 3 → Nat :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r49 : BitVec 32 := 0#32
  ![24, v2.toNat, 0]
def k0_off27 (i : grid0.Coords) : Fin 3 → Nat :=
  let c25_i32 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106_r51 : BitVec 32 := 0#32
  ![25, v2.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S26x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x13 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S26x128x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S13x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x1 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x26 : Shape := ⟨2, ![4096, 26]⟩
abbrev S4096x13 : Shape := ⟨2, ![4096, 13]⟩
abbrev S13x1000x50 : Shape := ⟨3, ![13, 1000, 50]⟩
abbrev S13x100000x50 : Shape := ⟨3, ![13, 100000, 50]⟩
abbrev S512x1313 : Shape := ⟨2, ![512, 1313]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1000x50 : Shape := ⟨3, ![1, 1000, 50]⟩
abbrev S1000x50 : Shape := ⟨2, ![1000, 50]⟩
abbrev S4096x1 : Shape := ⟨2, ![4096, 1]⟩
abbrev S4096 : Shape := ⟨1, ![4096]⟩
abbrev S_ : Shape := ⟨0, ![]⟩
abbrev S4096x50 : Shape := ⟨2, ![4096, 50]⟩
abbrev S1x100000x50 : Shape := ⟨3, ![1, 100000, 50]⟩
abbrev S100000x50 : Shape := ⟨2, ![100000, 50]⟩
abbrev S4096x800 : Shape := ⟨2, ![4096, 800]⟩
abbrev S4096x513 : Shape := ⟨2, ![4096, 513]⟩
abbrev S4096x1313 : Shape := ⟨2, ![4096, 1313]⟩
abbrev S1313x512 : Shape := ⟨2, ![1313, 512]⟩
abbrev S4096x512 : Shape := ⟨2, ![4096, 512]⟩
abbrev S1x512 : Shape := ⟨2, ![1, 512]⟩
abbrev S512x256 : Shape := ⟨2, ![512, 256]⟩
abbrev S4096x256 : Shape := ⟨2, ![4096, 256]⟩
abbrev S1x256 : Shape := ⟨2, ![1, 256]⟩
abbrev S256x128 : Shape := ⟨2, ![256, 128]⟩
abbrev S4096x128 : Shape := ⟨2, ![4096, 128]⟩
abbrev S128x1 : Shape := ⟨2, ![128, 1]⟩
abbrev S1x1 : Shape := ⟨2, ![1, 1]⟩

abbrev nBuf : Space → Nat
  | .hbm => 399
  | .vmem => 0
  | .smem => 0
  | _ => 0

abbrev hbmTy0_0 (i : Nat) : BufTy := match i % 128 with
  | 0 => ⟨S4096x26, .i32⟩
  | 1 => ⟨S4096x13, .f32⟩
  | 2 => ⟨S13x1000x50, .f32⟩
  | 3 => ⟨S13x100000x50, .f32⟩
  | 4 => ⟨S512x1313, .f32⟩
  | 5 => ⟨S512, .f32⟩
  | 6 => ⟨S512, .f32⟩
  | 7 => ⟨S512, .f32⟩
  | 8 => ⟨S256x512, .f32⟩
  | 9 => ⟨S256, .f32⟩
  | 10 => ⟨S128x256, .f32⟩
  | 11 => ⟨S128, .f32⟩
  | 12 => ⟨S1x128, .f32⟩
  | 13 => ⟨S1, .f32⟩
  | 14 => ⟨S1x1000x50, .f32⟩
  | 15 => ⟨S1000x50, .f32⟩
  | 16 => ⟨S4096x1, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096x50, .f32⟩
  | 27 => ⟨S1x1000x50, .f32⟩
  | 28 => ⟨S1000x50, .f32⟩
  | 29 => ⟨S4096x1, .i32⟩
  | 30 => ⟨S4096, .i32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S4096x50, .f32⟩
  | 40 => ⟨S1x1000x50, .f32⟩
  | 41 => ⟨S1000x50, .f32⟩
  | 42 => ⟨S4096x1, .i32⟩
  | 43 => ⟨S4096, .i32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S4096x50, .f32⟩
  | 53 => ⟨S1x1000x50, .f32⟩
  | 54 => ⟨S1000x50, .f32⟩
  | 55 => ⟨S4096x1, .i32⟩
  | 56 => ⟨S4096, .i32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S4096x50, .f32⟩
  | 66 => ⟨S1x1000x50, .f32⟩
  | 67 => ⟨S1000x50, .f32⟩
  | 68 => ⟨S4096x1, .i32⟩
  | 69 => ⟨S4096, .i32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S4096x1, .i32⟩
  | 78 => ⟨S4096x50, .f32⟩
  | 79 => ⟨S1x1000x50, .f32⟩
  | 80 => ⟨S1000x50, .f32⟩
  | 81 => ⟨S4096x1, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096x50, .f32⟩
  | 92 => ⟨S1x1000x50, .f32⟩
  | 93 => ⟨S1000x50, .f32⟩
  | 94 => ⟨S4096x1, .i32⟩
  | 95 => ⟨S4096, .i32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x50, .f32⟩
  | 105 => ⟨S1x1000x50, .f32⟩
  | 106 => ⟨S1000x50, .f32⟩
  | 107 => ⟨S4096x1, .i32⟩
  | 108 => ⟨S4096, .i32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S4096x50, .f32⟩
  | 118 => ⟨S1x1000x50, .f32⟩
  | 119 => ⟨S1000x50, .f32⟩
  | 120 => ⟨S4096x1, .i32⟩
  | 121 => ⟨S4096, .i32⟩
  | 122 => ⟨S_, .i32⟩
  | 123 => ⟨S4096, .i32⟩
  | 124 => ⟨S4096, .i1⟩
  | 125 => ⟨S_, .i32⟩
  | 126 => ⟨S4096, .i32⟩
  | 127 => ⟨S4096, .i32⟩
  | _ => ⟨S4096x26, .i32⟩

abbrev hbmTy0_1 (i : Nat) : BufTy := match i % 128 with
  | 0 => ⟨S4096, .i32⟩
  | 1 => ⟨S4096x1, .i32⟩
  | 2 => ⟨S4096x50, .f32⟩
  | 3 => ⟨S1x1000x50, .f32⟩
  | 4 => ⟨S1000x50, .f32⟩
  | 5 => ⟨S4096x1, .i32⟩
  | 6 => ⟨S4096, .i32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S4096x50, .f32⟩
  | 16 => ⟨S1x1000x50, .f32⟩
  | 17 => ⟨S1000x50, .f32⟩
  | 18 => ⟨S4096x1, .i32⟩
  | 19 => ⟨S4096, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S4096x50, .f32⟩
  | 29 => ⟨S1x1000x50, .f32⟩
  | 30 => ⟨S1000x50, .f32⟩
  | 31 => ⟨S4096x1, .i32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x50, .f32⟩
  | 42 => ⟨S1x1000x50, .f32⟩
  | 43 => ⟨S1000x50, .f32⟩
  | 44 => ⟨S4096x1, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S4096x50, .f32⟩
  | 55 => ⟨S1x100000x50, .f32⟩
  | 56 => ⟨S100000x50, .f32⟩
  | 57 => ⟨S4096x1, .i32⟩
  | 58 => ⟨S4096, .i32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096x50, .f32⟩
  | 68 => ⟨S1x100000x50, .f32⟩
  | 69 => ⟨S100000x50, .f32⟩
  | 70 => ⟨S4096x1, .i32⟩
  | 71 => ⟨S4096, .i32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S4096x50, .f32⟩
  | 81 => ⟨S1x100000x50, .f32⟩
  | 82 => ⟨S100000x50, .f32⟩
  | 83 => ⟨S4096x1, .i32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x50, .f32⟩
  | 94 => ⟨S1x100000x50, .f32⟩
  | 95 => ⟨S100000x50, .f32⟩
  | 96 => ⟨S4096x1, .i32⟩
  | 97 => ⟨S4096, .i32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S4096x1, .i32⟩
  | 106 => ⟨S4096x50, .f32⟩
  | 107 => ⟨S1x100000x50, .f32⟩
  | 108 => ⟨S100000x50, .f32⟩
  | 109 => ⟨S4096x1, .i32⟩
  | 110 => ⟨S4096, .i32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S4096x50, .f32⟩
  | 120 => ⟨S1x100000x50, .f32⟩
  | 121 => ⟨S100000x50, .f32⟩
  | 122 => ⟨S4096x1, .i32⟩
  | 123 => ⟨S4096, .i32⟩
  | 124 => ⟨S_, .i32⟩
  | 125 => ⟨S4096, .i32⟩
  | 126 => ⟨S4096, .i1⟩
  | 127 => ⟨S_, .i32⟩
  | _ => ⟨S4096x26, .i32⟩

abbrev hbmTy0_2 (i : Nat) : BufTy := match i % 128 with
  | 0 => ⟨S4096, .i32⟩
  | 1 => ⟨S4096, .i32⟩
  | 2 => ⟨S4096, .i32⟩
  | 3 => ⟨S4096x1, .i32⟩
  | 4 => ⟨S4096x50, .f32⟩
  | 5 => ⟨S1x100000x50, .f32⟩
  | 6 => ⟨S100000x50, .f32⟩
  | 7 => ⟨S4096x1, .i32⟩
  | 8 => ⟨S4096, .i32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S4096x50, .f32⟩
  | 18 => ⟨S1x100000x50, .f32⟩
  | 19 => ⟨S100000x50, .f32⟩
  | 20 => ⟨S4096x1, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x50, .f32⟩
  | 31 => ⟨S1x100000x50, .f32⟩
  | 32 => ⟨S100000x50, .f32⟩
  | 33 => ⟨S4096x1, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S4096x50, .f32⟩
  | 44 => ⟨S1x100000x50, .f32⟩
  | 45 => ⟨S100000x50, .f32⟩
  | 46 => ⟨S4096x1, .i32⟩
  | 47 => ⟨S4096, .i32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S4096x1, .i32⟩
  | 56 => ⟨S4096x50, .f32⟩
  | 57 => ⟨S1x100000x50, .f32⟩
  | 58 => ⟨S100000x50, .f32⟩
  | 59 => ⟨S4096x1, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4096x50, .f32⟩
  | 70 => ⟨S1x100000x50, .f32⟩
  | 71 => ⟨S100000x50, .f32⟩
  | 72 => ⟨S4096x1, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096x50, .f32⟩
  | 83 => ⟨S1x100000x50, .f32⟩
  | 84 => ⟨S100000x50, .f32⟩
  | 85 => ⟨S4096x1, .i32⟩
  | 86 => ⟨S4096, .i32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S4096x50, .f32⟩
  | 96 => ⟨S4096x800, .f32⟩
  | 97 => ⟨S4096x513, .f32⟩
  | 98 => ⟨S4096x1313, .f32⟩
  | 99 => ⟨S1313x512, .f32⟩
  | 100 => ⟨S4096x512, .f32⟩
  | 101 => ⟨S1x512, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S_, .f32⟩
  | 108 => ⟨S4096x512, .f32⟩
  | 109 => ⟨S4096x512, .f32⟩
  | 110 => ⟨S_, .f32⟩
  | 111 => ⟨S_, .f32⟩
  | 112 => ⟨S_, .f32⟩
  | 113 => ⟨S4096x512, .f32⟩
  | 114 => ⟨S4096x512, .f32⟩
  | 115 => ⟨S1x512, .f32⟩
  | 116 => ⟨S4096x512, .f32⟩
  | 117 => ⟨S4096x512, .f32⟩
  | 118 => ⟨S1x512, .f32⟩
  | 119 => ⟨S4096x512, .f32⟩
  | 120 => ⟨S4096x512, .f32⟩
  | 121 => ⟨S512x256, .f32⟩
  | 122 => ⟨S4096x256, .f32⟩
  | 123 => ⟨S1x256, .f32⟩
  | 124 => ⟨S4096x256, .f32⟩
  | 125 => ⟨S4096x256, .f32⟩
  | 126 => ⟨S_, .f32⟩
  | 127 => ⟨S4096x256, .f32⟩
  | _ => ⟨S4096x26, .i32⟩

abbrev hbmTy0_3 (i : Nat) : BufTy := match i % 128 with
  | 0 => ⟨S4096x256, .f32⟩
  | 1 => ⟨S256x128, .f32⟩
  | 2 => ⟨S4096x128, .f32⟩
  | 3 => ⟨S1x128, .f32⟩
  | 4 => ⟨S4096x128, .f32⟩
  | 5 => ⟨S4096x128, .f32⟩
  | 6 => ⟨S_, .f32⟩
  | 7 => ⟨S4096x128, .f32⟩
  | 8 => ⟨S4096x128, .f32⟩
  | 9 => ⟨S128x1, .f32⟩
  | 10 => ⟨S4096x1, .f32⟩
  | 11 => ⟨S1x1, .f32⟩
  | 12 => ⟨S4096x1, .f32⟩
  | 13 => ⟨S4096x1, .f32⟩
  | 14 => ⟨S4096, .f32⟩
  | _ => ⟨S4096x26, .i32⟩

abbrev hbmTy (i : Nat) : BufTy := match i / 128 with
  | 0 => hbmTy0_0 i
  | 1 => hbmTy0_1 i
  | 2 => hbmTy0_2 i
  | 3 => hbmTy0_3 i
  | _ => ⟨S4096x26, .i32⟩

abbrev bufTy : (tb : Table) → Fin (tcTables nBuf tb) → BufTy
  | .hbm, ⟨i, _⟩ => hbmTy i
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_11 : Ref sig .tc := ⟨.hbm, 96, rfl⟩
abbrev main_v70 : Ref sig .tc := ⟨.hbm, 97, rfl⟩
abbrev main_v71 : Ref sig .tc := ⟨.hbm, 98, rfl⟩
abbrev main_c_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_13 : Ref sig .tc := ⟨.hbm, 109, rfl⟩
abbrev main_v81 : Ref sig .tc := ⟨.hbm, 110, rfl⟩
abbrev main_v82 : Ref sig .tc := ⟨.hbm, 111, rfl⟩
abbrev main_c_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_15 : Ref sig .tc := ⟨.hbm, 122, rfl⟩
abbrev main_v92 : Ref sig .tc := ⟨.hbm, 123, rfl⟩
abbrev main_v93 : Ref sig .tc := ⟨.hbm, 124, rfl⟩
abbrev main_c_16 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_17 : Ref sig .tc := ⟨.hbm, 135, rfl⟩
abbrev main_v103 : Ref sig .tc := ⟨.hbm, 136, rfl⟩
abbrev main_v104 : Ref sig .tc := ⟨.hbm, 137, rfl⟩
abbrev main_c_18 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_c_19 : Ref sig .tc := ⟨.hbm, 148, rfl⟩
abbrev main_v114 : Ref sig .tc := ⟨.hbm, 149, rfl⟩
abbrev main_v115 : Ref sig .tc := ⟨.hbm, 150, rfl⟩
abbrev main_c_20 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_21 : Ref sig .tc := ⟨.hbm, 161, rfl⟩
abbrev main_v125 : Ref sig .tc := ⟨.hbm, 162, rfl⟩
abbrev main_v126 : Ref sig .tc := ⟨.hbm, 163, rfl⟩
abbrev main_c_22 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_c_23 : Ref sig .tc := ⟨.hbm, 174, rfl⟩
abbrev main_v136 : Ref sig .tc := ⟨.hbm, 175, rfl⟩
abbrev main_v137 : Ref sig .tc := ⟨.hbm, 176, rfl⟩
abbrev main_c_24 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_c_25 : Ref sig .tc := ⟨.hbm, 187, rfl⟩
abbrev main_v147 : Ref sig .tc := ⟨.hbm, 188, rfl⟩
abbrev main_v148 : Ref sig .tc := ⟨.hbm, 189, rfl⟩
abbrev main_c_26 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_c_27 : Ref sig .tc := ⟨.hbm, 200, rfl⟩
abbrev main_v158 : Ref sig .tc := ⟨.hbm, 201, rfl⟩
abbrev main_v159 : Ref sig .tc := ⟨.hbm, 202, rfl⟩
abbrev main_c_28 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_c_29 : Ref sig .tc := ⟨.hbm, 213, rfl⟩
abbrev main_v169 : Ref sig .tc := ⟨.hbm, 214, rfl⟩
abbrev main_v170 : Ref sig .tc := ⟨.hbm, 215, rfl⟩
abbrev main_c_30 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_c_31 : Ref sig .tc := ⟨.hbm, 226, rfl⟩
abbrev main_v180 : Ref sig .tc := ⟨.hbm, 227, rfl⟩
abbrev main_v181 : Ref sig .tc := ⟨.hbm, 228, rfl⟩
abbrev main_c_32 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_c_33 : Ref sig .tc := ⟨.hbm, 239, rfl⟩
abbrev main_v191 : Ref sig .tc := ⟨.hbm, 240, rfl⟩
abbrev main_v192 : Ref sig .tc := ⟨.hbm, 241, rfl⟩
abbrev main_c_34 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_c_35 : Ref sig .tc := ⟨.hbm, 252, rfl⟩
abbrev main_v202 : Ref sig .tc := ⟨.hbm, 253, rfl⟩
abbrev main_v203 : Ref sig .tc := ⟨.hbm, 254, rfl⟩
abbrev main_c_36 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_c_37 : Ref sig .tc := ⟨.hbm, 265, rfl⟩
abbrev main_v213 : Ref sig .tc := ⟨.hbm, 266, rfl⟩
abbrev main_v214 : Ref sig .tc := ⟨.hbm, 267, rfl⟩
abbrev main_c_38 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_c_39 : Ref sig .tc := ⟨.hbm, 278, rfl⟩
abbrev main_v224 : Ref sig .tc := ⟨.hbm, 279, rfl⟩
abbrev main_v225 : Ref sig .tc := ⟨.hbm, 280, rfl⟩
abbrev main_c_40 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_c_41 : Ref sig .tc := ⟨.hbm, 291, rfl⟩
abbrev main_v235 : Ref sig .tc := ⟨.hbm, 292, rfl⟩
abbrev main_v236 : Ref sig .tc := ⟨.hbm, 293, rfl⟩
abbrev main_c_42 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_c_43 : Ref sig .tc := ⟨.hbm, 304, rfl⟩
abbrev main_v246 : Ref sig .tc := ⟨.hbm, 305, rfl⟩
abbrev main_v247 : Ref sig .tc := ⟨.hbm, 306, rfl⟩
abbrev main_c_44 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_c_45 : Ref sig .tc := ⟨.hbm, 317, rfl⟩
abbrev main_v257 : Ref sig .tc := ⟨.hbm, 318, rfl⟩
abbrev main_v258 : Ref sig .tc := ⟨.hbm, 319, rfl⟩
abbrev main_c_46 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_c_47 : Ref sig .tc := ⟨.hbm, 330, rfl⟩
abbrev main_v268 : Ref sig .tc := ⟨.hbm, 331, rfl⟩
abbrev main_v269 : Ref sig .tc := ⟨.hbm, 332, rfl⟩
abbrev main_c_48 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_c_49 : Ref sig .tc := ⟨.hbm, 343, rfl⟩
abbrev main_v279 : Ref sig .tc := ⟨.hbm, 344, rfl⟩
abbrev main_v280 : Ref sig .tc := ⟨.hbm, 345, rfl⟩
abbrev main_c_50 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_call0_cst : Ref sig .tc := ⟨.hbm, 360, rfl⟩
abbrev main_call0_v0 : Ref sig .tc := ⟨.hbm, 361, rfl⟩
abbrev main_v294 : Ref sig .tc := ⟨.hbm, 362, rfl⟩
abbrev main_cst : Ref sig .tc := ⟨.hbm, 363, rfl⟩
abbrev main_v295 : Ref sig .tc := ⟨.hbm, 364, rfl⟩
abbrev main_v296 : Ref sig .tc := ⟨.hbm, 365, rfl⟩
abbrev main_cst_51 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_call1_cst : Ref sig .tc := ⟨.hbm, 382, rfl⟩
abbrev main_call1_v0 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_call2_cst : Ref sig .tc := ⟨.hbm, 390, rfl⟩
abbrev main_call2_v0 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩

abbrev nD : Nat := 1
abbrev τ : Topo := Topo.v7x

variable {F : FTy → Type} [FloatOps F]
-- ==== Proof.Ideal.Setup.lean ====
/-
  What the launch theorem is given: the program as one SparseCore call and one TensorCore pipeline, the resource algebra, the
  buffers of the SparseCore call, and the read shares its tiles hold of the two arrays all of them read.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ 𝕄) := by
  unfold EP; infer_instance

/-! ## The buffers of the SparseCore call -/

abbrev tLoc (d : Dev nD) : Loc nD τ sig := (SparseCore.T d).loc main_v12
abbrev iLoc (d : Dev nD) : Loc nD τ sig := (SparseCore.T d).loc main_v31
abbrev oLoc (d : Dev nD) : Loc nD τ sig := (SparseCore.T d).loc main_v51

/-! ## Read shares: a full share halved five times, one leaf per tile -/

/-- Leaf `i` of the depth-`n` halving of share `q`: the low bit of `i` chooses the first half. -/
def leaf : (n : ℕ) → PosShare TreeShare → ℕ → PosShare TreeShare
  | 0, q, _ => q
  | n + 1, q, i => leaf n (if i % 2 = 0 then q.left else q.right) (i / 2)

/-- The numbers below `2 ^ (n + 1)` by their low bit. -/
def bitEquiv (n : ℕ) : Fin (2 ^ n) ⊕ Fin (2 ^ n) ≃ Fin (2 ^ (n + 1)) where
  toFun := Sum.elim (fun i => ⟨2 * i.val, by have := i.isLt; omega⟩) (fun i => ⟨2 * i.val + 1, by have := i.isLt; omega⟩)
  invFun i := if i.val % 2 = 0 then .inl ⟨i.val / 2, by have := i.isLt; omega⟩ else .inr ⟨i.val / 2, by have := i.isLt; omega⟩
  left_inv x := by
    rcases x with i | i
    · simp
    · have : (2 * i.val + 1) % 2 = 1 := by omega
      have h2 : (2 * i.val + 1) / 2 = i.val := by omega
      simp [this, h2]
  right_inv i := by
    by_cases h : i.val % 2 = 0
    · simp only [h, ↓reduceIte, Sum.elim_inl]; exact Fin.ext (by simp only; omega)
    · simp only [h, ↓reduceIte, Sum.elim_inr]; exact Fin.ext (by simp only; omega)

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i.val} f
  | 0, q => (bigSep_univ_of_subsingleton (0 : Fin 1) (Φ := fun i : Fin (2 ^ 0) => (ℓ ↦[I]{leaf 0 q i.val} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (bitEquiv n) (fun i : Fin (2 ^ (n + 1)) => (ℓ ↦[I]{leaf (n + 1) q i.val} f : sProp 𝕄)), bigSep_univ_sum]
    congr 1 <;> refine bigSep_congr fun i _ => ?_
    · have h1 : (2 * i.val) % 2 = 0 := by omega
      have h2 : (2 * i.val) / 2 = i.val := by omega
      simp only [bitEquiv, Equiv.coe_fn_mk, Sum.elim_inl, leaf, h1, h2, ↓reduceIte]
    · have h1 : ¬(2 * i.val + 1) % 2 = 0 := by omega
      have h2 : (2 * i.val + 1) / 2 = i.val := by omega
      simp only [bitEquiv, Equiv.coe_fn_mk, Sum.elim_inr, leaf, h1, h2, ↓reduceIte]

/-- Tile `w`'s share of an array all thirty-two tiles read. -/
abbrev tq (w : ℕ) : PosShare TreeShare := leaf 5 fullShare w

end Cert.KernelIdeal.Run

end
-- ==== Proof.Ideal.Tile.lean ====
/-
  One tile of the SparseCore call. The body is twenty-six equal steps; a step fetches 128 index words, gathers the rows of the table
  they name and writes them to its rows of the output. The steps carry what has been gathered so far, so that at the end the tile's
  rows of the output are the gathered rows.
-/
module

public import proofs.«01_k».proof.Proof.Ideal.Setup

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev tV : Memref sig .scVector .hbm S1313000x128 .f32 := Memref.whole main_v12_scv
abbrev iV : Memref sig .scVector .hbm S106496 .i32 := Memref.whole main_v31_scv
abbrev oV : Memref sig .scVector .hbm S26x4096x128 .f32 := Memref.whole main_v51_scv
abbrev sV : Memref sig .scVector .vmem S128 .i32 := Memref.whole cc0_scratch0
abbrev rV : Memref sig .scVector .vmem S128x128 .f32 := Memref.whole cc0_scratch1

/-! ## The body as twenty-six equal steps -/

/-- The 128 index words at offset `a1`, the table whole, and the 128 rows of the output at offset `a2`, as a step addresses them. -/
abbrev iSl (a1 : Fin 1 → ℕ) (h1 : ∀ a, a1 a + S128.size a ≤ S106496.size a) : Memref sig .scVector .hbm S128 .i32 :=
  (iV).slice (Rect.unit (s := S106496) a1 S128.size h1) (fun _ => rfl)
abbrev tAll : Memref sig .scVector .hbm S1313000x128 .f32 :=
  (tV).slice (Rect.unit (s := S1313000x128) ![0, 0] S1313000x128.size inb_S1313000x128_S1313000x128_0_0) (fun _ => rfl)
abbrev oSl (a2 : Fin 3 → ℕ) (h2 : ∀ a, a2 a + S1x128x128.size a ≤ S26x4096x128.size a) : Memref sig .scVector .hbm S128x128 .f32 :=
  ((oV).slice (Rect.unit (s := S26x4096x128) a2 S1x128x128.size h2) (fun _ => rfl)).squeeze S128x128 squeezes_S1x128x128_S128x128

/-- One step: fetch 128 index words, gather the rows of the table they name, write the rows out. -/
noncomputable def step (c : Fin τ.nSC) (s : Fin τ.nSub) (a1 : Fin 1 → ℕ) (h1 : ∀ a, a1 a + S128.size a ≤ S106496.size a)
    (a2 : Fin 3 → ℕ) (h2 : ∀ a, a2 a + S1x128x128.size a ≤ S26x4096x128.size a) (sA sB : DmaSem sig) :
    Prog (TpuEff nD τ sig (Elt F) Λ₀ (.scVector c s)) PUnit := do
  Prog.lift (.enqueueDma (iSl a1 h1) (.here sV) (.dma sA) (View.wordExact_bits rfl) (Memref.isWhole_whole _).wordExact ⟨Or.inl rfl, trivial⟩)
  Prog.lift (.waitDma2 sA (iSl a1 h1) sV (View.wordExact_bits rfl) (Memref.isWhole_whole _).wordExact)
  SparseCore.enqueueIndirectGather rfl tAll rV gathers_S1313000x128_S128x128 sV rfl cc0_scratch2.sem (View.wordExact_bits rfl) rfl (Or.inl rfl)
  SparseCore.waitIndirectGather cc0_scratch2.sem tAll rV (View.wordExact_bits rfl) (Memref.isWhole_whole _).wordExact
  Prog.lift (.enqueueDma rV (.here (oSl a2 h2)) (.dma sB) (Memref.isWhole_whole _).wordExact ((View.wordExact_bits rfl).reshape _ _) ⟨Or.inl rfl, trivial⟩)
  Prog.lift (.waitDma2 sB rV (oSl a2 h2) (Memref.isWhole_whole _).wordExact ((View.wordExact_bits rfl).reshape _ _))

/-- Each step's output offset, as the program prints it. -/
def offO (i : grid0.Coords) : Fin 26 → Fin 3 → ℕ :=
  ![k0_off2 i, k0_off3 i, k0_off4 i, k0_off5 i, k0_off6 i, k0_off7 i, k0_off8 i, k0_off9 i, k0_off10 i, k0_off11 i, k0_off12 i, k0_off13 i, k0_off14 i,
    k0_off15 i, k0_off16 i, k0_off17 i, k0_off18 i, k0_off19 i, k0_off20 i, k0_off21 i, k0_off22 i, k0_off23 i, k0_off24 i, k0_off25 i, k0_off26 i, k0_off27 i]

set_option maxRecDepth 100000 in
theorem offO_eq : ∀ (i : grid0.Coords) (f : Fin 26), offO i f = ![f.val, ((i 1).val * 2 + (i 0).val) * 128, 0] := by
  intro i f
  have hb : (Scalar.muli (Scalar.addi (Scalar.muli (BitVec.ofNat 32 (i 1).val) 2#32) (BitVec.ofNat 32 (i 0).val)) 128#32).toNat
      = ((i 1).val * 2 + (i 0).val) * 128 := by
    have h0 : (i 0).val < 2 := (i 0).isLt
    have h1 : (i 1).val < 16 := (i 1).isLt
    simp only [Scalar.muli, Scalar.addi, IntOp.muli, IntOp.addi, BitVec.toNat_mul, BitVec.toNat_add, BitVec.toNat_ofNat]
    omega
  fin_cases f <;> exact congrArg (fun n => ![_, n, 0]) hb

theorem offI_eq (i : grid0.Coords) (f : Fin 26) : k0_off1 i (BitVec.ofNat 32 (4096 * f.val)) = ![4096 * f.val + ((i 1).val * 2 + (i 0).val) * 128] := by
  have h0 : (i 0).val < 2 := (i 0).isLt
  have h1 : (i 1).val < 16 := (i 1).isLt
  have h2 := f.isLt
  have hb : (Scalar.addi (BitVec.ofNat 32 (4096 * f.val)) (Scalar.muli (Scalar.addi (Scalar.muli (BitVec.ofNat 32 (i 1).val) 2#32) (BitVec.ofNat 32 (i 0).val)) 128#32)).toNat
      = 4096 * f.val + ((i 1).val * 2 + (i 0).val) * 128 := by
    simp only [Scalar.muli, Scalar.addi, IntOp.muli, IntOp.addi, BitVec.toNat_mul, BitVec.toNat_add, BitVec.toNat_ofNat]
    omega
  exact congrArg (fun n => ![n]) hb

theorem offO_inb (i : grid0.Coords) (f : Fin 26) (a : Fin 3) : offO i f a + S1x128x128.size a ≤ S26x4096x128.size a := by
  have h0 : (i 0).val < 2 := (i 0).isLt
  have h1 : (i 1).val < 16 := (i 1).isLt
  have h2 := f.isLt
  rw [offO_eq]
  match a with
  | 0 => show f.val + 1 ≤ 26; omega
  | 1 => show ((i 1).val * 2 + (i 0).val) * 128 + 128 ≤ 4096; omega
  | 2 => show 0 + 128 ≤ 128; omega

/-- The semaphore a step's index fetch completes on, and its write-out. -/
abbrev semI (f : Fin 26) : DmaSem sig := ⟨2 * f.val + 1, by show _ < 68; omega⟩
abbrev semO (f : Fin 26) : DmaSem sig := ⟨2 * f.val + 2, by show _ < 68; omega⟩

/-- Step `f` of the tile at grid coordinates `i`. -/
noncomputable def stepAt (i : grid0.Coords) (f : Fin 26) : Prog (TpuEff nD τ sig (Elt F) Λ₀ (.scVector ((i 0).castLE hcore0) ((i 1).castLE hsub0))) PUnit :=
  step _ _ (k0_off1 i (BitVec.ofNat 32 (4096 * f.val))) (k0_off1_inb i f) (offO i f) (offO_inb i f) (semI f) (semO f)

/-- Steps `n`, `n + 1`, … up to the last, in order. -/
noncomputable def stepsFrom (i : grid0.Coords) : (k : ℕ) → (n : ℕ) → n + k = 26 → Prog (TpuEff nD τ sig (Elt F) Λ₀ (.scVector ((i 0).castLE hcore0) ((i 1).castLE hsub0))) PUnit
  | 0, _, _ => pure ⟨⟩
  | k + 1, n, h => stepAt i ⟨n, by omega⟩ >>= fun _ => stepsFrom i k (n + 1) (by omega)

set_option maxRecDepth 100000 in
set_option maxHeartbeats 4000000 in
theorem body_eq (i : grid0.Coords) :
    cc0__sc_gather_body (F := F) i tV (Memref.isWhole_whole _) iV (Memref.isWhole_whole _) oV (Memref.isWhole_whole _)
      sV (Memref.isWhole_whole _) rV (Memref.isWhole_whole _) cc0_scratch2 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51
      = stepsFrom i 26 0 rfl := by
  chain_rfl

/-! ## What the call computes -/

/-- The index word of output row `(f, b)`. -/
def posAt (j : S26x4096x128.Idx) : S106496.Idx := fun
  | 0 => ⟨(j 0).val * 4096 + (j 1).val, by
    have h0 : (j 0).val < 26 := (j 0).isLt
    have h1 : (j 1).val < 4096 := (j 1).isLt
    show _ < 106496; omega⟩

/-- Lane `l` of the table's row number `w`. -/
def rowAt (w : BitVec 32) (l : Fin 128) : S1313000x128.Idx := fun
  | 0 => ⟨w.toNat % 1313000, Nat.mod_lt _ (by decide)⟩
  | 1 => l

/-- The gathered array: output row `(f, b)` is the row of the table that index word `f * 4096 + b` names. -/
def gath (tv : S1313000x128.Idx → Elt F .f32) (iv : S106496.Idx → Elt F .i32) : S26x4096x128.Idx → Elt F .f32 :=
  fun j => tv (rowAt (iv (posAt j)) (j 2))

/-- The output rows tile `w` writes. -/
def blk (w : ℕ) : Finset S26x4096x128.Idx := Finset.univ.filter fun j => (j 1).val / 128 = w

theorem mem_blk {w : ℕ} {j : S26x4096x128.Idx} : j ∈ blk w ↔ (j 1).val / 128 = w := by simp [blk]

/-! ## One step -/

abbrev wid (i : grid0.Coords) : ℕ := (i 1).val * 2 + (i 0).val
abbrev thr (d : Dev nD) (i : grid0.Coords) : Thread nD τ := V d ((i 0).castLE hcore0) ((i 1).castLE hsub0)

variable (d : Dev nD) (i : grid0.Coords) (tv : Buf (Elt F) (tLoc d)) (iv : Buf (Elt F) (iLoc d))

theorem dma_scoped : ∀ s : DmaSem sig, (SemLoc.dma s : SemLoc sig).isScoped .scVector = true := by decide

abbrev cell (s : DmaSem sig) : GSem nD τ sig := (thr d i, .dma s)

theorem cell_ne {s s' : DmaSem sig} (h : s ≠ s') : cell d i s ≠ cell d i s' := fun e => h (by
  have e2 := congrArg Prod.snd e
  exact SemLoc.dma.inj e2)

/-- Three of the tile's own semaphores out of all of them. -/
theorem ownSems0_three {a b c : DmaSem sig} (hab : a ≠ b) (hac : a ≠ c) (hbc : b ≠ c) :
    (ownSems0 (thr d i) : sProp 𝕄)
      = iprop(semVal (cell d i a) 0 ∗ semVal (cell d i b) 0 ∗ semVal (cell d i c) 0
          ∗ bigSep ((((ownCells (thr d i)).erase (cell d i a)).erase (cell d i b)).erase (cell d i c)) fun g => semVal g 0) := by
  unfold SparseCore.Cfg.ownSems0
  rw [SparseCore.bigSep_erase' ((mem_ownCells (g := cell d i a)).mpr ⟨rfl, dma_scoped a⟩),
    SparseCore.bigSep_erase' (Finset.mem_erase.mpr ⟨cell_ne d i hab.symm, (mem_ownCells (g := cell d i b)).mpr ⟨rfl, dma_scoped b⟩⟩),
    SparseCore.bigSep_erase' (Finset.mem_erase.mpr ⟨cell_ne d i hbc.symm, Finset.mem_erase.mpr ⟨cell_ne d i hac.symm,
      (mem_ownCells (g := cell d i c)).mpr ⟨rfl, dma_scoped c⟩⟩⟩)]

/-- The two scratch buffers are among the tile's own: they are them, at some contents, and the rest. -/
theorem ownBufs_V :
    (ownBufs (thr d i) : sProp 𝕄)
      = iprop((∃ f, (thr d i).loc cc0_scratch0 ↦{fullShare} f) ∗ (∃ f, (thr d i).loc cc0_scratch1 ↦{fullShare} f)
          ∗ bigSep (((ownRefs (τ := τ) (thr d i).2).erase ((thr d i).2.devRef cc0_scratch0)).erase ((thr d i).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2)
    (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩)]

/-- A tile between steps: its shares of the two arrays it reads, its rows of the output (those of the first `n` fields gathered), its
    scratch buffers, its semaphores at zero, and what it owes. -/
def Inv (O : CellTallies nD τ sig (HIx 1)) (W : Waits sig (HIx 1)) (n : ℕ) : sProp 𝕄 :=
  iprop((iLoc d ↦{tq (wid i)} iv) ∗ (tLoc d ↦{tq (wid i)} tv)
    ∗ (∃ g : Buf (Elt F) (oLoc d), ⌜∀ j ∈ blk (wid i), (j 0).val < n → g j = gath tv iv j⌝ ∗ (oLoc d ↦[blk (wid i)]{fullShare} g))
    ∗ (∃ f, (thr d i).loc cc0_scratch0 ↦{fullShare} f) ∗ (∃ f, (thr d i).loc cc0_scratch1 ↦{fullShare} f)
    ∗ ownSems0 (thr d i)
    ∗ ∃ W', ⌜∀ p ∈ W', p ∈ W ∨ p.2 = none⌝ ∗ owes (thr d i) O W')

/-- Row `r`, lane `l` of the write-out's destination is row `base + r` of field `f`. -/
theorem oSl_emb {a2 : Fin 3 → ℕ} (h2 : ∀ a, a2 a + S1x128x128.size a ≤ S26x4096x128.size a) (x : S128x128.Idx) :
    ((((oSl a2 h2).view.emb x) 0).val = a2 0) ∧ ((((oSl a2 h2).view.emb x) 1).val = a2 1 + (x 0).val) ∧ ((((oSl a2 h2).view.emb x) 2).val = a2 2 + (x 1).val) := by
  have e : (Shape.reshapeEquiv (s := S1x128x128) (s' := S128x128) squeezes_S1x128x128_S128x128.numel_eq) x = (fun | 0 => (⟨0, Nat.one_pos⟩ : Fin 1) | 1 => x 0 | 2 => x 1 : S1x128x128.Idx) := by
    refine (Shape.reshapeEquiv_cons_one (d := ![128, 128]) _ x).trans ?_
    funext a; fin_cases a <;> rfl
  have e2 : (oSl a2 h2).view.emb x = (Rect.unit (s := S26x4096x128) a2 S1x128x128.size h2).emb
      ((Shape.reshapeEquiv (s := S1x128x128) (s' := S128x128) squeezes_S1x128x128_S128x128.numel_eq) x) := rfl
  rw [e2, e]
  refine ⟨?_, ?_, ?_⟩ <;> rw [Rect.emb_apply]
  · show a2 0 + 1 * 0 = _; omega
  · show a2 1 + 1 * (x 0).val = _; omega
  · show a2 2 + 1 * (x 1).val = _; omega

theorem oSl_set {a2 : Fin 3 → ℕ} (h2 : ∀ a, a2 a + S1x128x128.size a ≤ S26x4096x128.size a) (j : S26x4096x128.Idx) :
    j ∈ (oSl a2 h2).view.set ↔ (j 0).val = a2 0 ∧ (a2 1 ≤ (j 1).val ∧ (j 1).val < a2 1 + 128) ∧ (a2 2 ≤ (j 2).val ∧ (j 2).val < a2 2 + 128) := by
  constructor
  · intro h
    obtain ⟨x, -, rfl⟩ := Finset.mem_map.mp h
    obtain ⟨e0, e1, e2⟩ := oSl_emb h2 x
    have l0 : (x 0).val < 128 := (x 0).isLt
    have l1 : (x 1).val < 128 := (x 1).isLt
    rw [e0, e1, e2]; omega
  · rintro ⟨e0, ⟨e1, e1'⟩, e2, e2'⟩
    let x : S128x128.Idx := fun | 0 => (⟨(j 1).val - a2 1, by omega⟩ : Fin 128) | 1 => (⟨(j 2).val - a2 2, by omega⟩ : Fin 128)
    refine Finset.mem_map.mpr ⟨x, Finset.mem_univ _, ?_⟩
    obtain ⟨f0, f1, f2⟩ := oSl_emb h2 x
    funext a
    fin_cases a
    · exact Fin.ext (f0.trans e0.symm)
    · exact Fin.ext (f1.trans (by show a2 1 + ((j 1).val - a2 1) = (j 1).val; omega))
    · exact Fin.ext (f2.trans (by show a2 2 + ((j 2).val - a2 2) = (j 2).val; omega))

theorem oSl_subset (f : Fin 26) : (oSl (offO i f) (offO_inb i f)).view.set ⊆ blk (wid i) := by
  intro j hj
  rw [oSl_set] at hj
  rw [mem_blk]
  rw [offO_eq] at hj
  have h : ((i 1).val * 2 + (i 0).val) * 128 ≤ (j 1).val ∧ (j 1).val < ((i 1).val * 2 + (i 0).val) * 128 + 128 := hj.2.1
  unfold wid; omega

/-- The word the fetch leaves at place `k` of the list is the index word of row `base + k` of field `f`. -/
theorem iSl_emb (f : Fin 26) (k : S128.Idx) :
    (iSl (k0_off1 i (BitVec.ofNat 32 (4096 * f.val))) (k0_off1_inb i f)).view.emb k 0
      = (⟨4096 * f.val + wid i * 128 + (k 0).val, by
          have h0 : (i 0).val < 2 := (i 0).isLt
          have h1 : (i 1).val < 16 := (i 1).isLt
          have h2 := f.isLt
          have h3 : (k 0).val < 128 := (k 0).isLt
          show _ < 106496; unfold wid; omega⟩ : Fin 106496) := by
  refine Fin.ext ?_
  have e : ((iSl (k0_off1 i (BitVec.ofNat 32 (4096 * f.val))) (k0_off1_inb i f)).view.emb k 0).val
      = k0_off1 i (BitVec.ofNat 32 (4096 * f.val)) 0 + 1 * (k 0).val := Rect.emb_apply _ _ _
  have e2 : k0_off1 i (BitVec.ofNat 32 (4096 * f.val)) 0 = 4096 * f.val + ((i 1).val * 2 + (i 0).val) * 128 := congrFun (offI_eq i f) 0
  refine (e.trans (congrArg (· + 1 * (k 0).val) e2)).trans ?_
  show 4096 * f.val + ((i 1).val * 2 + (i 0).val) * 128 + 1 * (k 0).val = 4096 * f.val + wid i * 128 + (k 0).val
  unfold wid; omega

/-- The list a step's gather reads, once the fetch has landed. -/
abbrev fetched (f : Fin 26) : S128.Idx → Elt F .i32 := (iSl (k0_off1 i (BitVec.ofNat 32 (4096 * f.val))) (k0_off1_inb i f)).view.read (Elt F) iv

theorem fetched_inb (hiv : ∀ j, (iv j).toNat < 1313000) (f : Fin 26) (fs : Buf (Elt F) ((thr d i).loc cc0_scratch0)) (pay : S128.Idx → Elt F .i32) (hpay : pay = fetched d i iv f) :
    ∀ x, ((sV).view.read (Elt F) (View.write (Elt F) (sV).view fs pay Finset.univ) x).toNat < S1313000x128.size gathers_S1313000x128_S128x128.axis := by
  subst hpay; intro x
  rw [View.write_whole_univ]
  simp only [Memref.view_whole, View.read_whole]
  exact hiv _

/-- Row `x` of what a step gathers is the row of the output it is written to. -/
theorem gathered_eq (hiv : ∀ j, (iv j).toNat < 1313000) (f : Fin 26) (fs : Buf (Elt F) ((thr d i).loc cc0_scratch0)) (pay : S128.Idx → Elt F .i32) (hpay : pay = fetched d i iv f)
    (hn : S128.numel = S128x128.size gathers_S1313000x128_S128x128.axis') (x : S128x128.Idx) :
    SparseCore.gatherPayload gathers_S1313000x128_S128x128 ((tAll).view.read (Elt F) tv)
        (SparseCore.rows ((sV).view.read (Elt F) (View.write (Elt F) (sV).view fs pay Finset.univ)) hn (fetched_inb d i iv hiv f fs pay hpay)) x
      = gath tv iv ((oSl (offO i f) (offO_inb i f)).view.emb x) := by
  subst hpay
  obtain ⟨e0, e1, e2⟩ := oSl_emb (offO_inb i f) x
  have e0' : (((oSl (offO i f) (offO_inb i f)).view.emb x) 0).val = f.val := e0.trans (congrFun (offO_eq i f) 0)
  have e1' : (((oSl (offO i f) (offO_inb i f)).view.emb x) 1).val = ((i 1).val * 2 + (i 0).val) * 128 + (x 0).val :=
    e1.trans (congrArg (· + (x 0).val) (congrFun (offO_eq i f) 1))
  have e2' : (((oSl (offO i f) (offO_inb i f)).view.emb x) 2).val = 0 + (x 1).val := e2.trans (congrArg (· + (x 1).val) (congrFun (offO_eq i f) 2))
  unfold SparseCore.gatherPayload gath
  show tv ((tAll).view.emb _) = _
  congr 1
  funext a
  fin_cases a
  · refine Fin.ext ((Rect.emb_apply _ _ _).trans ?_)
    show 0 + 1 * (gathers_S1313000x128_S128x128.idx _ x gathers_S1313000x128_S128x128.axis).val = _
    rw [Shape.Gathers.idx_axis]
    show 0 + 1 * (View.write (Elt F) (sV).view fs (fetched d i iv f) Finset.univ _ : BitVec 32).toNat = (iv (posAt _)).toNat % 1313000
    rw [View.write_whole_univ, Nat.mod_eq_of_lt (hiv _), Nat.zero_add, Nat.one_mul]
    show (iv _).toNat = _
    congr 2
    funext b
    fin_cases b
    refine (iSl_emb i f _).trans (Fin.ext ?_)
    show 4096 * f.val + wid i * 128 + (S128.rowMajor.symm _ 0).val = (_ : ℕ) * 4096 + _
    have hk : ((S128.rowMajor.symm (Fin.cast hn.symm (x 0)) : S128.Idx) 0).val = (x 0).val := by
      rw [← Shape.rowMajor_val_one (S128.rowMajor.symm _), Equiv.apply_symm_apply]; rfl
    refine (congrArg (4096 * f.val + wid i * 128 + ·) hk).trans ?_
    rw [e0', e1']; unfold wid; omega
  · refine Fin.ext ((Rect.emb_apply _ _ _).trans ?_)
    show 0 + 1 * (gathers_S1313000x128_S128x128.idx _ x 1).val = _
    rw [Shape.Gathers.idx_of_ne _ _ _ _ (by decide)]
    show 0 + 1 * (x 1).val = (((oSl (offO i f) (offO_inb i f)).view.emb x) 2).val
    rw [e2']; omega

/-- The output's rows once a step has written its own. -/
theorem written_ok (f : Fin 26) (g : Buf (Elt F) (oLoc d)) (hg : ∀ j ∈ blk (wid i), (j 0).val < f.val → g j = gath tv iv j)
    (w : S128x128.Idx → Elt F .f32) (hw : ∀ x, w x = gath tv iv ((oSl (offO i f) (offO_inb i f)).view.emb x)) :
    ∀ j ∈ blk (wid i), (j 0).val < f.val + 1 →
      (oSl (offO i f) (offO_inb i f)).view.writes (Elt F) g [⟨Rect.whole S128x128, w⟩] j = gath tv iv j := by
  intro j hj hlt
  have hemb : ∀ x : S128x128.Idx, ((oSl (offO i f) (offO_inb i f)).view.slice (Rect.whole S128x128)).emb x = (oSl (offO i f) (offO_inb i f)).view.emb x := fun x =>
    congrArg (oSl (offO i f) (offO_inb i f)).view.emb (funext fun a => Fin.ext ((Rect.emb_apply _ _ _).trans (by show 0 + 1 * (x a).val = _; omega)))
  show View.write (Elt F) ((oSl (offO i f) (offO_inb i f)).view.slice (Rect.whole S128x128)) g w Finset.univ j = _
  by_cases hs : j ∈ (oSl (offO i f) (offO_inb i f)).view.set
  · obtain ⟨x, -, rfl⟩ := Finset.mem_map.mp hs
    rw [← hemb x]
    exact (View.write_emb_of_mem (Val := Elt F) (v := (oSl (offO i f) (offO_inb i f)).view.slice (Rect.whole S128x128)) g w (Finset.mem_univ x)).trans
      ((hw x).trans (congrArg (gath tv iv) (hemb x).symm))
  · refine (View.write_of_not_mem (Val := Elt F) (v := (oSl (offO i f) (offO_inb i f)).view.slice (Rect.whole S128x128)) g w Finset.univ ?_).trans (hg j hj ?_)
    · intro h
      obtain ⟨x, -, rfl⟩ := Finset.mem_map.mp h
      exact hs (Finset.mem_map.mpr ⟨x, Finset.mem_univ _, (hemb x).symm⟩)
    rw [oSl_set] at hs
    rw [mem_blk] at hj
    have hl : (j 2).val < 128 := (j 2).isLt
    rw [offO_eq] at hs
    have hs' : ¬((j 0).val = f.val ∧ (((i 1).val * 2 + (i 0).val) * 128 ≤ (j 1).val ∧ (j 1).val < ((i 1).val * 2 + (i 0).val) * 128 + 128)
      ∧ 0 ≤ (j 2).val ∧ (j 2).val < 0 + 128) := hs
    unfold wid at hj
    omega

/-- Off the rows it writes, a step leaves the output. -/
theorem written_off (f : Fin 26) (g : Buf (Elt F) (oLoc d)) (w : S128x128.Idx → Elt F .f32) :
    ∀ j ∈ blk (wid i) \ (oSl (offO i f) (offO_inb i f)).view.set,
      g j = (oSl (offO i f) (offO_inb i f)).view.writes (Elt F) g [⟨Rect.whole S128x128, w⟩] j := by
  intro j hj
  refine (View.write_of_not_mem (Val := Elt F) (v := (oSl (offO i f) (offO_inb i f)).view.slice (Rect.whole S128x128)) g w Finset.univ ?_).symm
  intro h
  obtain ⟨x, -, rfl⟩ := Finset.mem_map.mp h
  exact (Finset.mem_sdiff.mp hj).2 (Finset.mem_map.mpr ⟨_, Finset.mem_univ _, rfl⟩)

theorem sem_ne₁ (f : Fin 26) : semI f ≠ cc0_scratch2.sem := fun e => absurd (congrArg Fin.val e) (by show 2 * f.val + 1 ≠ 0; omega)
theorem sem_ne₂ (f : Fin 26) : semI f ≠ semO f := fun e => absurd (congrArg Fin.val e) (by show 2 * f.val + 1 ≠ 2 * f.val + 2; omega)
theorem sem_ne₃ (f : Fin 26) : cc0_scratch2.sem ≠ semO f := fun e => absurd (congrArg Fin.val e) (by show 0 ≠ 2 * f.val + 2; omega)

set_option maxHeartbeats 4000000 in
/-- Step `f` from one invariant to the next. -/
theorem step_wp (hiv : ∀ j, (iv j).toNat < 1313000) (f : Fin 26) (O : CellTallies nD τ sig (HIx 1)) (W : Waits sig (HIx 1)) (hO : ∀ g, O g none = 0) :
    iprop(levAts (K (F := F)).L (K (F := F)).lev ∗ Inv d i tv iv O W f.val)
      ⊢ wp frame (wpE (defs₀ (F := F)) 𝒱₀ (thr d i) none) Set.univ (stepAt i f) fun _ => Inv d i tv iv O W (f.val + 1) := by
  unfold stepAt step
  unfold Inv
  rw [ownSems0_three d i (sem_ne₁ f) (sem_ne₂ f) (sem_ne₃ f)]
  iintro ⟨#Hlv, Hi, Ht, ⟨%g, %hg, Ho⟩, ⟨%fs, Hs⟩, ⟨%fr, Hr⟩, ⟨HsemA, HsemB, HsemC, Hsems⟩, %W', %hW', HO⟩
  ihave Hmw := (show levAts (K (F := F)).L (K (F := F)).lev ⊢ Transfers.MayWaits (thr d i) (default : HIx 1) O from
    (K (F := F)).mayWaits_none (thr := thr d i) hO) $$ Hlv
  ihave His := (pointsTo_split_subset (q := tq (wid i)) (f := iv) (S := Finset.univ)
    (Finset.subset_univ (iSl (k0_off1 i (BitVec.ofNat 32 (4096 * f.val))) (k0_off1_inb i f)).view.set)).1 $$ Hi
  icases His with ⟨His, Hir⟩
  ihave Hos := (pointsTo_split_subset (q := fullShare) (f := g) (oSl_subset i f)).1 $$ Ho
  icases Hos with ⟨Hos, Hor⟩
  ihave His' := (Entails.of_eq (show (iLoc d ↦[(iSl (k0_off1 i (BitVec.ofNat 32 (4096 * f.val))) (k0_off1_inb i f)).view.set]{tq (wid i)} iv : sProp 𝕄)
    = ((iSl (k0_off1 i (BitVec.ofNat 32 (4096 * f.val))) (k0_off1_inb i f)).view.loc (thr d i)
        ↦[(iSl (k0_off1 i (BitVec.ofNat 32 (4096 * f.val))) (k0_off1_inb i f)).view.set]{tq (wid i)} iv) from rfl)) $$ His
  ihave Hos' := (Entails.of_eq (show (oLoc d ↦[(oSl (offO i f) (offO_inb i f)).view.set]{fullShare} g : sProp 𝕄)
    = ((oSl (offO i f) (offO_inb i f)).view.loc (thr d i) ↦[(oSl (offO i f) (offO_inb i f)).view.set]{fullShare} g) from rfl)) $$ Hos
  ihave Hs' := (Entails.of_eq (show ((thr d i).loc cc0_scratch0 ↦{fullShare} fs : sProp 𝕄) = ((sV).view.loc (thr d i) ↦{fullShare} fs) from rfl)) $$ Hs
  ihave Hr' := (Entails.of_eq (show ((thr d i).loc cc0_scratch1 ↦{fullShare} fr : sProp 𝕄) = ((rV).view.loc (thr d i) ↦{fullShare} fr) from rfl)) $$ Hr
  sl_exec
  ihave Hts := (pointsTo_split_subset (q := tq (wid i)) (f := tv) (S := Finset.univ) (Finset.subset_univ (tAll).view.set)).1 $$ Ht
  icases Hts with ⟨Hts, Htr⟩
  have hrs : (rV).view.set = Finset.univ := View.set_whole _
  have hss : (sV).view.set = Finset.univ := View.set_whole _
  ihave Hr2 := (Entails.of_eq (show ((rV).view.loc (thr d i) ↦{fullShare} fr : sProp 𝕄)
      = (rV).view.loc (thr d i) ↦[(rV).view.set]{fullShare} fr by rw [hrs])) $$ Hr'
  ihave Hs2 := (Entails.of_eq (show ((sV).view.loc (thr d i) ↦{fullShare} View.write (Elt F) (sV).view fs (step_wp.sl.dma0 d i iv f) Finset.univ : sProp 𝕄)
      = (sV).view.loc (thr d i) ↦[(sV).view.set]{fullShare} View.write (Elt F) (sV).view fs (step_wp.sl.dma0 d i iv f) Finset.univ
      by rw [hss])) $$ Hs'
  have hN : ∀ h : S1313000x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (thr d i) none (hg := gathers_S1313000x128_S128x128) (default : HIx 1)
      (rV).view.dmaCredit (hN _) (by decide) (fetched_inb d i iv hiv f fs _ rfl)) $$ [Hts Hr2 Hs2 HsemB]
  · isplitl [Hts]; · iexact Hts
    isplitl [Hr2]; · iexact Hr2
    isplitl [Hs2]; · iexact Hs2
    iexact HsemB
  iintro Hfl
  sl_exec
  iapply (Transfers.wp_waitLocalO countersEmb 𝒱₀ (thr d i) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemB, HO⟩
  ihave Ht := (pointsTo_split_subset (q := tq (wid i)) (f := tv) (S := Finset.univ) (Finset.subset_univ (tAll).view.set)).2 $$ [Hts Htr]; · isplitl [Hts] <;> iassumption
  ihave Hr3 := (Entails.of_eq (show ((rV).view.loc (thr d i) ↦[(rV).view.set]{fullShare} _ : sProp 𝕄)
      = (rV).view.loc (thr d i) ↦{fullShare} _ by rw [hrs])) $$ Hr'
  ihave Hs3 := (Entails.of_eq (show ((sV).view.loc (thr d i) ↦[(sV).view.set]{fullShare} _ : sProp 𝕄)
      = (sV).view.loc (thr d i) ↦{fullShare} _ by rw [hss])) $$ Hs'
  sl_exec
  sl_step
  ihave Hor2 := (Entails.of_eq (pointsTo_congr (q := fullShare) (written_off d i f g (step_wp.sl.dma0_1 d i tv iv hiv f fs fr)))) $$ Hor
  isplitl [Hir]; · iexact Hir
  isplitl [Ht]; · iexact Ht
  isplitl [Hos' Hor2]
  · iexists ((oSl (offO i f) (offO_inb i f)).view.writes (Elt F) g [⟨Rect.whole S128x128, step_wp.sl.dma0_1 d i tv iv hiv f fs fr⟩])
    isplitr
    · ipureintro
      refine written_ok d i tv iv f g hg _ fun x => ?_
      exact (congrFun ((View.read_whole (Val := Elt F) cc0_scratch1 _).trans (View.write_whole_univ (Val := Elt F) cc0_scratch1 fr _)) x).trans (gathered_eq d i tv iv hiv f fs _ rfl _ x)
    iapply (pointsTo_split_subset (q := fullShare) (oSl_subset i f)).2
    isplitl [Hos'] <;> iassumption
  isplitl [Hs3]; · iexists _; iexact Hs3
  isplitl [Hr3]; · iexists _; iexact Hr3
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- The remaining steps, from their first invariant to the last. -/
theorem steps_wp (hiv : ∀ j, (iv j).toNat < 1313000) (O : CellTallies nD τ sig (HIx 1)) (W : Waits sig (HIx 1)) (hO : ∀ g, O g none = 0) :
    ∀ (k n : ℕ) (h : n + k = 26), iprop(levAts (K (F := F)).L (K (F := F)).lev ∗ Inv d i tv iv O W n)
      ⊢ wp frame (wpE (defs₀ (F := F)) 𝒱₀ (thr d i) none) Set.univ (stepsFrom i k n h) fun _ => Inv d i tv iv O W 26
  | 0, n, h => by
    obtain rfl : n = 26 := h
    show _ ⊢ wp _ _ _ (Prog.ret _) _
    rw [wp_ret]
    iintro ⟨-, H⟩
    imodintro
    iexact H
  | k + 1, n, h => by
    have h1 : iprop(levAts (K (F := F)).L (K (F := F)).lev ∗ Inv d i tv iv O W n)
        ⊢ iprop(levAts (K (F := F)).L (K (F := F)).lev
          ∗ wp frame (wpE (defs₀ (F := F)) 𝒱₀ (thr d i) none) Set.univ (stepAt i ⟨n, by omega⟩) fun _ => Inv d i tv iv O W (n + 1)) := by
      iintro ⟨#Hlv, H⟩
      isplitr; · iexact Hlv
      iapply (step_wp d i tv iv hiv ⟨n, _⟩ O W hO)
      isplitr; · iexact Hlv
      iexact H
    unfold stepsFrom
    rw [wp_bind]
    exact h1.trans ((wp_frame_l _ _ _).trans (wp_mono _ _ _ fun _ => steps_wp hiv O W hO k (n + 1) (by omega)))

end Cert.KernelIdeal.Run

end
-- ==== Proof.Ideal.Call.lean ====
/-
  The SparseCore call: what each tile takes and brings back, the tile's body under the launch, and how the call's operands split among
  the two cores and their sixteen tiles each.
-/
module

public import proofs.«01_k».proof.Proof.Ideal.Tile

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the handshakes carry -/

variable (tv : (d : Dev nD) → Buf (Elt F) (tLoc d)) (iv : (d : Dev nD) → Buf (Elt F) (iLoc d)) (ov : (d : Dev nD) → Buf (Elt F) (oLoc d))

/-- A core's share of the arrays both cores read. -/
abbrev hq (c : ℕ) : PosShare TreeShare := leaf 1 fullShare c

/-- A core's rows of the output: those of its sixteen tiles. -/
def half (c : ℕ) : Finset S26x4096x128.Idx := Finset.univ.filter fun j => (j 1).val / 128 % 2 = c

theorem tq_eq (c : Fin 2) (i : Fin 16) : tq (i.val * 2 + c.val) = leaf 4 (hq c.val) i.val := by
  have h2 : (i.val * 2 + c.val) / 2 = i.val := by omega
  have h1 : (i.val * 2 + c.val) % 2 = c.val := by omega
  show leaf 4 _ _ = leaf 4 _ _
  rw [h2, h1]
  have h3 : c.val % 2 = c.val := by omega
  show _ = leaf 4 (if c.val % 2 = 0 then _ else _) i.val
  rw [h3]

/-- Core `c` takes half of every share and its rows of the output; each of its tiles a sixteenth of that; they bring back the shares
    and the rows gathered. -/
def P : (K (F := F)).Pay (nD := nD) (Val := Elt F) (Name := ℕ) (U := UU) where
  st := fun q d c => match q with | 0 => iprop((iLoc d ↦{hq c.val} iv d) ∗ (tLoc d ↦{hq c.val} tv d) ∗ (oLoc d ↦[half c.val]{fullShare} ov d))
  dn := fun q d c => match q with | 0 => iprop((iLoc d ↦{hq c.val} iv d) ∗ (tLoc d ↦{hq c.val} tv d) ∗ (oLoc d ↦[half c.val]{fullShare} (gath (tv d) (iv d) : Buf (Elt F) (oLoc d))))
  go := fun q d c i => match q with
    | 0 => iprop((iLoc d ↦{tq (i.val * 2 + c.val)} iv d) ∗ (tLoc d ↦{tq (i.val * 2 + c.val)} tv d) ∗ (oLoc d ↦[blk (i.val * 2 + c.val)]{fullShare} ov d))
  td := fun q d c i => match q with
    | 0 => iprop((iLoc d ↦{tq (i.val * 2 + c.val)} iv d) ∗ (tLoc d ↦{tq (i.val * 2 + c.val)} tv d)
        ∗ (oLoc d ↦[blk (i.val * 2 + c.val)]{fullShare} (gath (tv d) (iv d) : Buf (Elt F) (oLoc d))))
  x := fun _ _ => iprop(emp)

instance P_storable : (P (F := F) tv iv ov).IsStorable where
  st q d c := match q with
    | 0 => (inferInstance : BI.Storable (upEmb : UEmb _ 𝕄) iprop((iLoc d ↦{hq c.val} iv d) ∗ (tLoc d ↦{hq c.val} tv d) ∗ (oLoc d ↦[half c.val]{fullShare} ov d)))
  dn q d c := match q with
    | 0 => (inferInstance : BI.Storable (upEmb : UEmb _ 𝕄)
      iprop((iLoc d ↦{hq c.val} iv d) ∗ (tLoc d ↦{hq c.val} tv d) ∗ (oLoc d ↦[half c.val]{fullShare} (gath (tv d) (iv d) : Buf (Elt F) (oLoc d)))))
  go q d c i := match q with
    | 0 => (inferInstance : BI.Storable (upEmb : UEmb _ 𝕄)
      iprop((iLoc d ↦{tq (i.val * 2 + c.val)} iv d) ∗ (tLoc d ↦{tq (i.val * 2 + c.val)} tv d) ∗ (oLoc d ↦[blk (i.val * 2 + c.val)]{fullShare} ov d)))
  td q d c i := match q with
    | 0 => (inferInstance : BI.Storable (upEmb : UEmb _ 𝕄)
      iprop((iLoc d ↦{tq (i.val * 2 + c.val)} iv d) ∗ (tLoc d ↦{tq (i.val * 2 + c.val)} tv d)
        ∗ (oLoc d ↦[blk (i.val * 2 + c.val)]{fullShare} (gath (tv d) (iv d) : Buf (Elt F) (oLoc d)))))

/-! ## The tile's body -/

theorem tile_body (d : Dev nD) (i : grid0.Coords) (hiv : ∀ j, (iv d j).toNat < 1313000) (O : CellTallies nD τ sig (HIx 1)) (W : Waits sig (HIx 1)) (hO : ∀ g, O g none = 0) :
    iprop(levAts (K (F := F)).L (K (F := F)).lev ∗ emp
        ∗ ((iLoc d ↦{tq (wid i)} iv d) ∗ (tLoc d ↦{tq (wid i)} tv d) ∗ (oLoc d ↦[blk (wid i)]{fullShare} ov d))
        ∗ scopedBufs (thr d i) ∗ scopedSems0 (thr d i) ∗ owes (thr d i) O W : sProp 𝕄)
      ⊢ wp frame (wpE (defs₀ (F := F)) 𝒱₀ (thr d i) none) Set.univ
          (cc0__sc_gather_body i tV (Memref.isWhole_whole _) iV (Memref.isWhole_whole _) oV (Memref.isWhole_whole _)
      sV (Memref.isWhole_whole _) rV (Memref.isWhole_whole _) cc0_scratch2 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51)
          fun _ => iprop(((iLoc d ↦{tq (wid i)} iv d) ∗ (tLoc d ↦{tq (wid i)} tv d)
              ∗ (oLoc d ↦[blk (wid i)]{fullShare} (gath (tv d) (iv d) : Buf (Elt F) (oLoc d))))
            ∗ scopedBufs (thr d i) ∗ scopedSems0 (thr d i)
            ∗ ∃ W', ⌜∀ p ∈ W', p ∈ W ∨ p.2 = none⌝ ∗ owes (thr d i) O W' : sProp 𝕄) := by
  have hb : (scopedBufs (thr d i) : sProp 𝕄) = ownBufs (thr d i) := (K (F := F)).scopedBufs_V scFacts d ((i 0).castLE hcore0) ((i 1).castLE hsub0)
  have hb2 := ownBufs_V (F := F) d i
  have hs : (scopedSems0 (thr d i) : sProp 𝕄) = ownSems0 (thr d i) := SparseCore.Cfg.scopedSems0_V (Val := Elt F) d _ _
  rw [body_eq, hb, hs, hb2]
  refine BI.Entails.trans (Q := iprop((wp frame (wpE (defs₀ (F := F)) 𝒱₀ (thr d i) none) Set.univ (stepsFrom i 26 0 rfl) fun _ => Inv d i (tv d) (iv d) O W 26)
    ∗ (bigSep (((ownRefs (τ := τ) (thr d i).2).erase ((thr d i).2.devRef cc0_scratch0)).erase ((thr d i).2.devRef cc0_scratch1))
              fun b => iprop(∃ f, ((d, b) : Loc nD τ sig) ↦{fullShare} f) : sProp 𝕄))) ?_ ((wp_frame_r _ _ _).trans (wp_mono _ _ _ fun _ => ?_))
  · show (_ : sProp 𝕄) ⊢ _
    iintro ⟨#Hlv, -, ⟨Hi, Ht, Ho⟩, ⟨Hs, Hr, Hbufs⟩, Hsems, HO⟩
    isplitr [Hbufs]
    swap; · iexact Hbufs
    iapply (steps_wp d i (tv d) (iv d) hiv O W hO 26 0 rfl)
    isplitr; · iexact Hlv
    unfold Inv
    isplitl [Hi]; · iexact Hi
    isplitl [Ht]; · iexact Ht
    isplitl [Ho]
    · iexists (ov d)
      isplitr
      · ipureintro; intro j _ h; exact absurd h (Nat.not_lt_zero _)
      iexact Ho
    isplitl [Hs]; · iexact Hs
    isplitl [Hr]; · iexact Hr
    isplitl [Hsems]; · iexact Hsems
    iexists W
    isplitr
    · ipureintro; exact fun p hp => .inl hp
    iexact HO
  · unfold Inv
    iintro ⟨⟨Hi, Ht, ⟨%g, %hg, Ho⟩, Hs, Hr, Hsems, HO⟩, Hbufs⟩
    ihave Ho' := (Entails.of_eq (pointsTo_congr (q := fullShare) (g := (gath (tv d) (iv d) : Buf (Elt F) (oLoc d)))
      (fun j hj => hg j hj (show (j 0).val < 26 from (j 0).isLt)))) $$ Ho
    isplitl [Hi Ht Ho']
    · isplitl [Hi]; · iexact Hi
      isplitl [Ht]; · iexact Ht
      iexact Ho'
    isplitl [Hs Hr Hbufs]
    · isplitl [Hs]; · iexact Hs
      isplitl [Hr]; · iexact Hr
      iexact Hbufs
    isplitl [Hsems]; · iexact Hsems
    iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          tV (Memref.isWhole_whole _) iV (Memref.isWhole_whole _) oV (Memref.isWhole_whole _)
      sV (Memref.isWhole_whole _) rV (Memref.isWhole_whole _) cc0_scratch2 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hiv : ∀ d j, (iv d j).toNat < 1313000) : (K (F := F)).TileObl (D (F := F)) 𝒱 (P tv iv ov) v₀ 0 := by
  intro d c i O W hO _ _
  simp only [show (P (F := F) tv iv ov).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tv iv ov d (coordsV ⟨_, hci.1⟩ ⟨_, hci.2⟩) (hiv d) O W hO).trans (wp_mono frame _ _ fun _ => obl_post)

/-! ## The operands split among the tiles and join -/

theorem blk_disjoint (c : Fin 2) : ∀ i ∈ (Finset.univ : Finset (Fin 16)), ∀ j ∈ (Finset.univ : Finset (Fin 16)), i ≠ j →
    Disjoint (blk (i.val * 2 + c.val)) (blk (j.val * 2 + c.val)) :=
  fun i _ j _ h => Finset.disjoint_left.mpr fun x hx hy => h (Fin.ext (by rw [mem_blk] at hx hy; omega))

theorem blk_cover (c : Fin 2) : (Finset.univ : Finset (Fin 16)).biUnion (fun i => blk (i.val * 2 + c.val)) = half c.val := by
  ext x
  have hx : (x 1).val < 4096 := (x 1).isLt
  simp only [Finset.mem_biUnion, Finset.mem_univ, true_and, mem_blk, half, Finset.mem_filter]
  constructor
  · rintro ⟨i, hi⟩; omega
  · intro h; exact ⟨⟨(x 1).val / 128 / 2, by omega⟩, by show _ = (x 1).val / 128 / 2 * 2 + c.val; omega⟩

theorem half_disjoint : ∀ i ∈ (Finset.univ : Finset (Fin 2)), ∀ j ∈ (Finset.univ : Finset (Fin 2)), i ≠ j → Disjoint (half i.val) (half j.val) :=
  fun i _ j _ h => Finset.disjoint_left.mpr fun x hx hy => h (Fin.ext (by
    simp only [half, Finset.mem_filter] at hx hy; omega))

theorem half_cover : (Finset.univ : Finset (Fin 2)).biUnion (fun c => half c.val) = Finset.univ := by
  ext x
  simp only [Finset.mem_biUnion, Finset.mem_univ, true_and, half, Finset.mem_filter, iff_true]
  exact ⟨⟨(x 1).val / 128 % 2, by omega⟩, rfl⟩

/-- A core's rows of the output are its tiles'. -/
theorem half_rows (d : Dev nD) (c : Fin 2) (f : Buf (Elt F) (oLoc d)) :
    (oLoc d ↦[half c.val]{fullShare} f : sProp 𝕄) = bigSep Finset.univ fun i : Fin 16 => oLoc d ↦[blk (i.val * 2 + c.val)]{fullShare} f := by
  rw [← pointsTo_biUnion Finset.univ (ℓ := oLoc d) (fun i : Fin 16 => blk (i.val * 2 + c.val)) (blk_disjoint c), blk_cover]

/-- The output is the two cores' rows. -/
theorem out_rows (d : Dev nD) (f : Buf (Elt F) (oLoc d)) :
    (oLoc d ↦{fullShare} f : sProp 𝕄) = bigSep Finset.univ fun c : Fin 2 => oLoc d ↦[half c.val]{fullShare} f := by
  rw [← pointsTo_biUnion Finset.univ (ℓ := oLoc d) (fun c : Fin 2 => half c.val) half_disjoint, half_cover]; try rfl

/-- A core's share of an array is its tiles' shares. -/
theorem core_shares {ℓ : Loc nD τ sig} (c : Fin 2) (f : Buf (Elt F) ℓ) :
    (ℓ ↦{hq c.val} f : sProp 𝕄) = bigSep Finset.univ fun i : Fin 16 => ℓ ↦{tq (i.val * 2 + c.val)} f := by
  rw [pointsTo_leaves Finset.univ f 4 (hq c.val)]
  exact bigSep_congr fun i _ => by rw [tq_eq c i]

/-- An array is the two cores' shares of it. -/
theorem whole_shares {ℓ : Loc nD τ sig} (f : Buf (Elt F) ℓ) :
    (ℓ ↦{fullShare} f : sProp 𝕄) = bigSep Finset.univ fun c : Fin 2 => ℓ ↦{hq c.val} f :=
  pointsTo_leaves Finset.univ f 1 fullShare

theorem vecSplit : (K (F := F)).VecSplit' (P tv iv ov) 0 := by
  intro d c
  obtain ⟨c, hc⟩ := c
  show iprop((iLoc d ↦{hq c} iv d) ∗ (tLoc d ↦{hq c} tv d) ∗ (oLoc d ↦[half c]{fullShare} ov d)) ⊢ |={Set.univ}=> iprop(
      (bigSep Finset.univ fun i : Fin 16 =>
        iprop((iLoc d ↦{tq (i.val * 2 + c)} iv d) ∗ (tLoc d ↦{tq (i.val * 2 + c)} tv d) ∗ (oLoc d ↦[blk (i.val * 2 + c)]{fullShare} ov d)))
      ∗ ((bigSep Finset.univ fun i : Fin 16 =>
        iprop((iLoc d ↦{tq (i.val * 2 + c)} iv d) ∗ (tLoc d ↦{tq (i.val * 2 + c)} tv d)
          ∗ (oLoc d ↦[blk (i.val * 2 + c)]{fullShare} (gath (tv d) (iv d) : Buf (Elt F) (oLoc d)))))
          -∗ iprop((iLoc d ↦{hq c} iv d) ∗ (tLoc d ↦{hq c} tv d) ∗ (oLoc d ↦[half c]{fullShare} (gath (tv d) (iv d) : Buf (Elt F) (oLoc d))))))
  rw [bigSep_sep', bigSep_sep', bigSep_sep', bigSep_sep',
    core_shares (⟨c, hc⟩ : Fin 2) (iv d), core_shares (⟨c, hc⟩ : Fin 2) (tv d), half_rows d (⟨c, hc⟩ : Fin 2), half_rows d (⟨c, hc⟩ : Fin 2)]
  iintro H; imodintro
  isplitl [H]; · iexact H
  iintro H; iexact H

/-- The call's operands whole are what its two cores take; -/
theorem st_eq (d : Dev nD) : (bigSep Finset.univ fun c : Fin ((K (F := F)).nCore 0) => (P tv iv ov).st 0 d c)
    = (iprop((iLoc d ↦{fullShare} iv d) ∗ (tLoc d ↦{fullShare} tv d) ∗ (oLoc d ↦{fullShare} ov d)) : sProp 𝕄) := by
  rw [whole_shares (iv d), whole_shares (tv d), out_rows d, ← bigSep_sep', ← bigSep_sep']
  rfl
/-- and what they bring back is the operands, the output gathered. -/
theorem dn_eq (d : Dev nD) : (bigSep Finset.univ fun c : Fin ((K (F := F)).nCore 0) => (P tv iv ov).dn 0 d c)
    = (iprop((iLoc d ↦{fullShare} iv d) ∗ (tLoc d ↦{fullShare} tv d) ∗ (oLoc d ↦{fullShare} (gath (tv d) (iv d) : Buf (Elt F) (oLoc d)))) : sProp 𝕄) := by
  rw [whole_shares (iv d), whole_shares (tv d), out_rows d, ← bigSep_sep', ← bigSep_sep']
  rfl

end Cert.KernelIdeal.Run

end
-- ==== Proof.Ideal.Mlp.lean ====
/-
  The TensorCore kernel's body at one grid point: what it computes of the blocks staged for it, and its run.
-/
module

public import proofs.«01_k».proof.Proof.Ideal.Setup
public import Idealize.ShloMosaic.Lib.Pipeline.FrameBody
public import Idealize.ShloMosaic.Lib.Pipeline.Value

@[expose] public section

noncomputable section

namespace Cert.KernelIdeal.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.Pipeline

variable {F : FTy → Type} [FloatOps F]

local notation "𝕄" => MT nD τ sig (HIx 1) (Elt F) ℕ UU ℕ

/-! ## The function of the blocks -/

theorem slab_inb (n : ℕ) (h : n < 26) (a : Fin 3) : (![n, 0, 0] : Fin 3 → ℕ) a + S1x512x128.size a ≤ S26x512x128.size a := by
  fin_cases a
  · show n + 1 ≤ 26; omega
  · show 0 + 512 ≤ 512; omega
  · show 0 + 128 ≤ 128; omega

theorem wslab_inb (n : ℕ) (h : n < 26) (a : Fin 3) : (![n, 0, 0] : Fin 3 → ℕ) a + S1x128x512.size a ≤ S26x128x512.size a := by
  fin_cases a
  · show n + 1 ≤ 26; omega
  · show 0 + 128 ≤ 128; omega
  · show 0 + 512 ≤ 512; omega

/-- The `n`-th field's rows of the gathered block, and of the first layer's weight. -/
abbrev slab (n : ℕ) (h : n < 26) : Rect S26x512x128 := Rect.unit (s := S26x512x128) ![n, 0, 0] S1x512x128.size (slab_inb n h)
abbrev wslab (n : ℕ) (h : n < 26) : Rect S26x128x512 := Rect.unit (s := S26x128x512) ![n, 0, 0] S1x128x512.size (wslab_inb n h)

/-- The `n`-th field's part of the first layer. -/
def term (x0 : Vec F S26x512x128 .f32) (x2 : Vec F S26x128x512 .bf16) (n : ℕ) (h : n < 26) : FVec F S512x512 .f32 :=
  matmul dot_S512x128_S128x512_S512x512_1_0_0_1_n_n none
    (truncf .bf16 (shapeCast S512x128 (View.ld x0 (slab n h)) shapeCasts_S1x512x128_S512x128) bitsLt_bf16_f32)
    (shapeCast S128x512 (View.ld x2 (wslab n h)) shapeCasts_S1x128x512_S128x512)
    (constant S512x512 .f32 0x00000000#32)

/-- The numeric part of the first layer and the first `n` fields' parts, added in order. -/
def upTo (x0 : Vec F S26x512x128 .f32) (x1 : Vec F S512x13 .bf16) (x2 : Vec F S26x128x512 .bf16) (x3 : Vec F S13x512 .bf16) :
    (n : ℕ) → n ≤ 26 → FVec F S512x512 .f32
  | 0, _ => matmul dot_S512x13_S13x512_S512x512_1_0_0_1_n_n none (shapeCast S512x13 (View.ld x1 (Rect.unit (s := S512x13) ![0, 0] S512x13.size inb_S512x13_S512x13_0_0)) shapeCasts_S512x13_S512x13)
      (shapeCast S13x512 (View.ld x3 (Rect.unit (s := S13x512) ![0, 0] S13x512.size inb_S13x512_S13x512_0_0)) shapeCasts_S13x512_S13x512) (constant S512x512 .f32 0x00000000#32)
  | n + 1, h => addf (upTo x0 x1 x2 x3 n (Nat.le_of_succ_le h)) (term x0 x2 n h)

/-- The layers after the first layer's products: bias, rectifier, and the next three layers. -/
def tail (a : FVec F S512x512 .f32) (x4 : Vec F S1x512 .f32) (x5 : Vec F S512x256 .bf16) (x6 : Vec F S1x256 .f32) (x7 : Vec F S256x128 .bf16)
    (x8 : Vec F S1x128 .f32) (x9 : Vec F S128x1 .bf16) (x10 : Vec F S1x1 .f32) : FVec F S512x1 .f32 :=
  have h1 : FVec F S512x512 .f32 := maximumf (addf a (broadcastTo S512x512 (shapeCast S1x512 (View.ld x4 (Rect.unit (s := S1x512) ![0, 0] S1x512.size inb_S1x512_S1x512_0_0)) shapeCasts_S1x512_S1x512) broadcasts_S1x512_S512x512))
    (broadcast S512x512 (Scalar.ofBits .f32 0x00000000#32))
  have h2 : FVec F S512x256 .f32 := maximumf (addf
      (matmul dot_S512x512_S512x256_S512x256_1_0_0_1_n_n none (truncf .bf16 h1 bitsLt_bf16_f32)
        (shapeCast S512x256 (View.ld x5 (Rect.unit (s := S512x256) ![0, 0] S512x256.size inb_S512x256_S512x256_0_0)) shapeCasts_S512x256_S512x256) (constant S512x256 .f32 0x00000000#32))
      (broadcastTo S512x256 (shapeCast S1x256 (View.ld x6 (Rect.unit (s := S1x256) ![0, 0] S1x256.size inb_S1x256_S1x256_0_0)) shapeCasts_S1x256_S1x256) broadcasts_S1x256_S512x256))
    (broadcast S512x256 (Scalar.ofBits .f32 0x00000000#32))
  have h3 : FVec F S512x128 .f32 := maximumf (addf
      (matmul dot_S512x256_S256x128_S512x128_1_0_0_1_n_n none (truncf .bf16 h2 bitsLt_bf16_f32)
        (shapeCast S256x128 (View.ld x7 (Rect.unit (s := S256x128) ![0, 0] S256x128.size inb_S256x128_S256x128_0_0)) shapeCasts_S256x128_S256x128) (constant S512x128 .f32 0x00000000#32))
      (broadcastTo S512x128 (shapeCast S1x128 (View.ld x8 (Rect.unit (s := S1x128) ![0, 0] S1x128.size inb_S1x128_S1x128_0_0)) shapeCasts_S1x128_S1x128) broadcasts_S1x128_S512x128))
    (broadcast S512x128 (Scalar.ofBits .f32 0x00000000#32))
  addf (matmul dot_S512x128_S128x1_S512x1_1_0_0_1_n_n none (truncf .bf16 h3 bitsLt_bf16_f32)
      (shapeCast S128x1 (View.ld x9 (Rect.unit (s := S128x1) ![0, 0] S128x1.size inb_S128x1_S128x1_0_0)) shapeCasts_S128x1_S128x1) (constant S512x1 .f32 0x00000000#32))
    (broadcastTo S512x1 (shapeCast S1x1 (View.ld x10 (Rect.unit (s := S1x1) ![0, 0] S1x1.size inb_S1x1_S1x1_0_0)) shapeCasts_S1x1_S1x1) broadcasts_S1x1_S512x1)

/-- What the body stores, of the eleven staged blocks. -/
def mlp (x0 : Vec F S26x512x128 .f32) (x1 : Vec F S512x13 .bf16) (x2 : Vec F S26x128x512 .bf16) (x3 : Vec F S13x512 .bf16)
    (x4 : Vec F S1x512 .f32) (x5 : Vec F S512x256 .bf16) (x6 : Vec F S1x256 .f32) (x7 : Vec F S256x128 .bf16)
    (x8 : Vec F S1x128 .f32) (x9 : Vec F S128x1 .bf16) (x10 : Vec F S1x1 .f32) : FVec F S512x1 .f32 :=
  tail (upTo x0 x1 x2 x3 26 (le_refl _)) x4 x5 x6 x7 x8 x9 x10

/-- The rectangle the body stores through: the whole block. -/
abbrev outR : Rect S512x1 := Rect.unit (s := S512x1) ![0, 0] S512x1.size inb_S512x1_S512x1_0_0

theorem cover (w : outR.shape.Idx → Elt F .f32) (y : S512x1.Idx) :
    ∃ p ∈ [(⟨outR, w⟩ : View.Piece (Elt F) S512x1 .f32)], y ∈ p.1.set :=
  ⟨_, List.mem_singleton.mpr rfl, View.mem_set_unit_zero (S := S512x1) (funext fun a => by fin_cases a <;> rfl) inb_S512x1_S512x1_0_0 y⟩

/-! ## The run of the body -/

set_option maxHeartbeats 4000000 in
/-- From the twelve staging buffers, the eleven inputs' holding `xW`: the body runs to its return leaving the inputs' as they were and
    the output's at `mlp` of them. -/
theorem mlp_wp (c : Dev nD) (E : Set ℕ) (i : grid1.Coords)
    (m0 : Memref sig .tc .vmem S26x512x128 .f32) (h0 : m0.IsWhole) (m1 : Memref sig .tc .vmem S512x13 .bf16) (h1 : m1.IsWhole)
    (m2 : Memref sig .tc .vmem S26x128x512 .bf16) (h2 : m2.IsWhole) (m3 : Memref sig .tc .vmem S13x512 .bf16) (h3 : m3.IsWhole)
    (m4 : Memref sig .tc .vmem S1x512 .f32) (h4 : m4.IsWhole) (m5 : Memref sig .tc .vmem S512x256 .bf16) (h5 : m5.IsWhole)
    (m6 : Memref sig .tc .vmem S1x256 .f32) (h6 : m6.IsWhole) (m7 : Memref sig .tc .vmem S256x128 .bf16) (h7 : m7.IsWhole)
    (m8 : Memref sig .tc .vmem S1x128 .f32) (h8 : m8.IsWhole) (m9 : Memref sig .tc .vmem S128x1 .bf16) (h9 : m9.IsWhole)
    (m10 : Memref sig .tc .vmem S1x1 .f32) (h10 : m10.IsWhole) (m11 : Memref sig .tc .vmem S512x1 .f32) (h11 : m11.IsWhole)
    (x0 : Vec F S26x512x128 .f32) (x1 : Vec F S512x13 .bf16) (x2 : Vec F S26x128x512 .bf16) (x3 : Vec F S13x512 .bf16)
    (x4 : Vec F S1x512 .f32) (x5 : Vec F S512x256 .bf16) (x6 : Vec F S1x256 .f32) (x7 : Vec F S256x128 .bf16)
    (x8 : Vec F S1x128 .f32) (x9 : Vec F S128x1 .bf16) (x10 : Vec F S1x1 .f32) (Q : PUnit → sProp 𝕄) :
    iprop(owns (c : Thread nD τ) m0 fullShare x0 ∗ owns (c : Thread nD τ) m1 fullShare x1 ∗ owns (c : Thread nD τ) m2 fullShare x2
        ∗ owns (c : Thread nD τ) m3 fullShare x3 ∗ owns (c : Thread nD τ) m4 fullShare x4 ∗ owns (c : Thread nD τ) m5 fullShare x5
        ∗ owns (c : Thread nD τ) m6 fullShare x6 ∗ owns (c : Thread nD τ) m7 fullShare x7 ∗ owns (c : Thread nD τ) m8 fullShare x8
        ∗ owns (c : Thread nD τ) m9 fullShare x9 ∗ owns (c : Thread nD τ) m10 fullShare x10 ∗ (∃ d, owns (c : Thread nD τ) m11 fullShare d)
        ∗ (iprop(owns (c : Thread nD τ) m0 fullShare x0 ∗ owns (c : Thread nD τ) m1 fullShare x1 ∗ owns (c : Thread nD τ) m2 fullShare x2
          ∗ owns (c : Thread nD τ) m3 fullShare x3 ∗ owns (c : Thread nD τ) m4 fullShare x4 ∗ owns (c : Thread nD τ) m5 fullShare x5
          ∗ owns (c : Thread nD τ) m6 fullShare x6 ∗ owns (c : Thread nD τ) m7 fullShare x7 ∗ owns (c : Thread nD τ) m8 fullShare x8
          ∗ owns (c : Thread nD τ) m9 fullShare x9 ∗ owns (c : Thread nD τ) m10 fullShare x10
          ∗ owns (c : Thread nD τ) m11 fullShare (mlp x0 x1 x2 x3 x4 x5 x6 x7 x8 x9 x10)) -∗ Q ⟨⟩))
    ⊢ wp frame (wpE (defs₀ (F := F)) 𝒱₀ (c : Thread nD τ) none) E
        (cc1__mlp_body i m0 h0 m1 h1 m2 h2 m3 h3 m4 h4 m5 h5 m6 h6 m7 h7 m8 h8 m9 h9 m10 h10 m11 h11) Q := by
  simp only [cc1__mlp_body_eq_skeleton]; unfold cc1__mlp_body_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d, %f11, -, H11⟩, Hk⟩
  subst hf0 hf1 hf2 hf3 hf4 hf5 hf6 hf7 hf8 hf9 hf10
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  iexists _; isplitr
  swap; · iexact H11
  ipureintro
  refine (View.read_writes_eq_canon _ _ _ (cover _)).trans ?_
  refine (View.canon_unit_zero (S := S512x1) (funext fun a => by fin_cases a <;> rfl) inb_S512x1_S512x1_0_0 _).trans ?_
  rfl

end Cert.KernelIdeal.Run

end
-- ==== Proof.Ideal.Region.lean ====
/-
  The TensorCore pipeline: its proof data from any contents of its arrays, the body's obligation, the array it leaves, and the region
  as a step of @main.
-/
module

public import proofs.«01_k».proof.Proof.Ideal.Mlp
public import Idealize.ShloMosaic.Lib.Pipeline.RegionArraysS

@[expose] public section

noncomputable section

namespace Cert.KernelIdeal.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- The pipelines' configurations take no table: their one admissible choice. -/
abbrev adm : (p : Fin 1) → (pcfgs (F := F) p).Adm := fun p => (cfgs p).toPCfg_adm

/-! ## The proof data -/

variable (V : (c : Dev nD) → Valuation τ sig (Elt F))

/-- The pipeline's arrays at the valuation. -/
abbrev arrA (c : Dev nD) (w : Fin cfg1.W) : Buf (Elt F) ((cfg1.win w).arr.view.loc (c : Thread nD τ)) :=
  V c (Proc.devRef .tc (Pipeline.arrRef spec1 w))

/-- Window `w`'s block at point `t`: what its buffer holds when the body runs, for an input. -/
abbrev iblk (c : Dev nD) (w : Fin cfg1.W) (t : Fin cfg1.N) : ((cfg1.win w).xblock (cfg1.grid.coords t)).Idx → Elt F (cfg1.win w).elt :=
  ((cfg1.win w).blk t).view.read (Elt F) (arrA V c w)

/-- What the body leaves at point `t`. -/
abbrev oblk (c : Dev nD) (t : Fin cfg1.N) : FVec F S512x1 .f32 :=
  mlp (iblk V c 0 t) (iblk V c 1 t) (iblk V c 2 t) (iblk V c 3 t) (iblk V c 4 t) (iblk V c 5 t) (iblk V c 6 t) (iblk V c 7 t)
    (iblk V c 8 t) (iblk V c 9 t) (iblk V c 10 t)

/-- The arrays at the valuation; the body leaves the inputs' buffers as it finds them and the output's at `oblk`; nothing is kept
    between points and nothing is owed. -/
def dat (c : Dev nD) : Dat τ (Elt F) (HIx 1) ℕ UU ℕ cfg1 c where
  A w := arrA V c w
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => oblk V c t
  Φ _ := BI.emp
  q _ := fullShare
  owed _ := 0

theorem dat_A (c : Dev nD) : (dat V c).A = arrA V c := by dsimp only [dat]

/-- Every input's buffer holds its block when the body runs. -/
theorem dat_before (c : Dev nD) (w : Fin cfg1.W) (hw : (cfg1.win w).isOut = false)
    (hclip : ∀ i : cfg1.grid.Coords, (cfg1.win w).clip i = fun _ => none) (hk : ∀ t, (cfg1.win w).cut (cfg1.grid.coords t) ((dat V c).after w t) = (dat V c).blockOf w t)
    (t : Fin cfg1.N) (d) {b} (hf : (dat V c).fetched w t d = b) : (dat V c).before w t d = b :=
  ((dat V c).before_in_eq_fetched w hw (fun _ => rfl) (fun _ _ _ => by rw [hclip, hclip]) hk t d).trans hf

set_option maxHeartbeats 2000000 in
theorem body_obligation (c : Dev nD) : BodyObligation (dat V c) (defs₀ (F := F)) 𝒱₀ (none : HIx 1) Set.univ := fun t => by
  rw [bigSep_W1, bigSep_W1]
  rw [show (dat V c).Φ t.castSucc = BI.emp from rfl, show (dat V c).Φ t.succ = BI.emp from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [dat_before V c 0 rfl (fun _ => rfl) (fun t => by dsimp only [dat]; rfl) t d0 (b := iblk V c 0 t) rfl, dat_before V c 1 rfl (fun _ => rfl) (fun t => by dsimp only [dat]; rfl) t d1 (b := iblk V c 1 t) rfl,
    dat_before V c 2 rfl (fun _ => rfl) (fun t => by dsimp only [dat]; rfl) t d2 (b := iblk V c 2 t) rfl, dat_before V c 3 rfl (fun _ => rfl) (fun t => by dsimp only [dat]; rfl) t d3 (b := iblk V c 3 t) rfl,
    dat_before V c 4 rfl (fun _ => rfl) (fun t => by dsimp only [dat]; rfl) t d4 (b := iblk V c 4 t) rfl, dat_before V c 5 rfl (fun _ => rfl) (fun t => by dsimp only [dat]; rfl) t d5 (b := iblk V c 5 t) rfl,
    dat_before V c 6 rfl (fun _ => rfl) (fun t => by dsimp only [dat]; rfl) t d6 (b := iblk V c 6 t) rfl, dat_before V c 7 rfl (fun _ => rfl) (fun t => by dsimp only [dat]; rfl) t d7 (b := iblk V c 7 t) rfl,
    dat_before V c 8 rfl (fun _ => rfl) (fun t => by dsimp only [dat]; rfl) t d8 (b := iblk V c 8 t) rfl, dat_before V c 9 rfl (fun _ => rfl) (fun t => by dsimp only [dat]; rfl) t d9 (b := iblk V c 9 t) rfl,
    dat_before V c 10 rfl (fun _ => rfl) (fun t => by dsimp only [dat]; rfl) t d10 (b := iblk V c 10 t) rfl]
  iapply (mlp_wp c Set.univ (grid1.coords t) _ _ _ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t)
    (iblk V c 8 t) (iblk V c 9 t) (iblk V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The array it leaves -/

theorem index_0 (t : Fin cfg1.N) : ((cfg1.win 0).index t 0 = 0 ∧ (cfg1.win 0).index t 1 = t.val) ∧ (cfg1.win 0).index t 2 = 0 := by
  rcases fin_N1 t with rfl | rfl | rfl | rfl | rfl | rfl | rfl | rfl <;> decide
theorem index_1 (t : Fin cfg1.N) : (cfg1.win 1).index t 0 = t.val ∧ (cfg1.win 1).index t 1 = 0 := by
  rcases fin_N1 t with rfl | rfl | rfl | rfl | rfl | rfl | rfl | rfl <;> decide
theorem index_11 (t : Fin cfg1.N) : (cfg1.win 11).index t 0 = t.val ∧ (cfg1.win 11).index t 1 = 0 := by
  rcases fin_N1 t with rfl | rfl | rfl | rfl | rfl | rfl | rfl | rfl <;> decide

/-- The point whose block holds row `j`, and the row within it. -/
def ptOf (j : S4096x1.Idx) : Fin cfg1.N := ⟨(j 0).val / 512, by
  have h : (j 0).val < 4096 := (j 0).isLt
  have hN : cfg1.N = 8 := N_1
  omega⟩
def rowOf (j : S4096x1.Idx) : S512x1.Idx
  | ⟨0, _⟩ => (⟨(j 0).val % 512, Nat.mod_lt _ (by decide)⟩ : Fin 512)
  | ⟨1, _⟩ => (⟨0, Nat.one_pos⟩ : Fin 1)

/-- What the region leaves in its result array. -/
def result (c : Dev nD) : S4096x1.Idx → Elt F .f32 := fun j => oblk V c (ptOf j) (rowOf j)

/-- Point `t`'s block of the result array holds rows `512 t` to `512 t + 511`. -/
theorem emb_11 (t : Fin cfg1.N) (x : S512x1.Idx) : ptOf ((win1_11.rect t).emb x) = t ∧ rowOf ((win1_11.rect t).emb x) = x := by
  have h0 : (((win1_11.rect t).emb x 0 : Fin _) : Nat) = (cfg1.win 11).index t 0 * 512 + 1 * (x 0).val := rfl
  have hx : (x 0).val < 512 := (x 0).isLt
  rw [(index_11 t).1] at h0
  constructor
  · apply Fin.ext
    show (((win1_11.rect t).emb x 0 : Fin _) : Nat) / 512 = t.val
    omega
  · funext a
    match a with
    | ⟨0, _⟩ => apply Fin.ext; show (((win1_11.rect t).emb x 0 : Fin _) : Nat) % 512 = (x 0).val; omega
    | ⟨1, _⟩ => exact Subsingleton.elim (α := Fin 1) _ _

theorem flushed_eq (c : Dev nD) (t : Fin cfg1.N) :
    (dat V c).flushed 11 t = ((cfg1.win 11).blk t).view.read (Elt F) (result V c : Buf (Elt F) ((c : Thread nD τ).loc main_v61)) := by
  have h : (dat V c).flushed 11 t = oblk V c t := by
    show (cfg1.win 11).cut (grid1.coords t) ((dat V c).after 11 t) = _
    dsimp only [dat]
    rfl
  rw [h]
  funext x
  show oblk V c t x = result V c ((win1_11.rect t).emb x)
  unfold result
  rw [(emb_11 t x).1, (emb_11 t x).2]

theorem arr_cover (j : S4096x1.Idx) : ∃ t : Fin cfg1.N, (cfg1.win 11).flush t = true ∧ j ∈ ((cfg1.win 11).blk t).view.set := by
  refine ⟨ptOf j, flush1_11 _, ?_⟩
  show j ∈ ((View.whole main_v61).slice (win1_11.rect (ptOf j))).set
  rw [View.set_slice_whole, Rect.mem_set_unit]
  intro a
  have hj : (j 0).val < 4096 := (j 0).isLt
  match a with
  | ⟨0, _⟩ =>
    show (cfg1.win 11).index (ptOf j) 0 * 512 ≤ (j 0).val ∧ (j 0).val < (cfg1.win 11).index (ptOf j) 0 * 512 + 512
    rw [(index_11 _).1]
    show (j 0).val / 512 * 512 ≤ _ ∧ _ < (j 0).val / 512 * 512 + 512
    omega
  | ⟨1, _⟩ =>
    have hj1 : (j 1).val < 1 := (j 1).isLt
    show (cfg1.win 11).index (ptOf j) 1 * 1 ≤ (j 1).val ∧ (j 1).val < (cfg1.win 11).index (ptOf j) 1 * 1 + 1
    rw [(index_11 _).2]
    omega

theorem result_arr (c : Dev nD) : (dat V c).arrAt 11 cfg1.N = (result V c : Buf (Elt F) ((c : Thread nD τ).loc main_v61)) :=
  (dat V c).arrAt_eq_of_cover 11 _ (fun t _ => flushed_eq V c t) arr_cover

/-! ## The region -/

def pdats : (p : Fin 1) → (c : Dev nD) → Dat τ (Elt F) (HIx 1) ℕ UU ℕ (Pipeline.pin (pcfgs (F := F)) adm p) c
  | ⟨0, _⟩ => fun c => dat V c

theorem levelCut : Pipeline.LevelCut (pcfgs (F := F)) adm (none : HIx 1) (K (F := F)).L (K (F := F)).lev 0 (fun _ : Dev nD => (0 : CellTallies nD τ sig (HIx 1))) (fun _ => 0) :=
  ⟨fun _ _ _ => Finset.mem_univ _, fun _ _ _ => le_refl _, fun _ _ _ h => absurd h (Nat.lt_irrefl _)⟩

/-- The pipeline's call as a step of @main, entered with the buffers of `S` at `V`. -/
def seg (S : Finset (DevRef τ sig)) (R : Dev nD → sProp 𝕄) :
    Pipeline.RegionSeg (pcfgs (F := F)) adm (pdats V) (none : HIx 1) (defs₀ (F := F)) 𝒱₀ (K (F := F)).L (K (F := F)).lev 0 :=
  Pipeline.RegionSeg.ofHeldIn (pcfgs (F := F)) adm (pdats V) none defs₀ 𝒱₀ (K (F := F)).L (K (F := F)).lev 0 (fun _ => 0) S
    (fun _ => BI.emp) (fun _ => BI.emp) launch1.toP rfl (fun c => (body_obligation V c).loose) (fun _ _ => rfl) (fun _ => rfl)
    (fun c w => (pdats V 0 c).share_full (fun _ => rfl) w)
    (fun c => by
      rw [show (Pipeline.scopedRest (Pipeline.pin (pcfgs (F := F)) adm 0).spec c : sProp 𝕄) = BI.emp from scopedRest1_eq c]
      rw [show (pdats V 0 c).Φ 0 = BI.emp from rfl]
      iintro ⟨-, H⟩; iexact H)
    (fun c => by
      rw [show (Pipeline.scopedRest (Pipeline.pin (pcfgs (F := F)) adm 0).spec c : sProp 𝕄) = BI.emp from scopedRest1_eq c]
      rw [show (pdats V 0 c).Φ (Fin.last _) = BI.emp from rfl]
      iintro H
      isplitr; · iempintro
      iexact H)
    (fun _ => 0) levelCut R V (fun c w => rfl)

end Cert.KernelIdeal.Run

end
-- ==== Proof.Ideal.Host.lean ====
/-
  @main's host operations, as three straight lines around the SparseCore call and the pipeline, and what they leave in the buffers the
  two kernels read.
-/
module

public import proofs.«01_k».proof.Proof.Ideal.Setup
public import Idealize.ShloMosaic.Lib.StableHlo.Run
public import Idealize.ShloMosaic.Lib.Pipeline.Frame

@[expose] public section

noncomputable section

namespace Cert.KernelIdeal.Run

open Cert.KernelIdeal Cert.KernelIdeal.Gen

open Idealize.ShloMosaic Idealize.ShloMosaic.TcCoe Idealize.ShloMosaic.StableHlo
open Idealize.SL.Sem

variable {F : FTy → Type} [FloatOps F]

/-! ## The lines -/

/-- The small tables' rows followed by the large tables'. -/
def stackTables (a : S13000x128.Idx → Elt F .f32) (b : S1300000x128.Idx → Elt F .f32) : S1313000x128.Idx → Elt F .f32 :=
  concatenate S1313000x128 0 [⟨S13000x128, a⟩, ⟨S1300000x128, b⟩] concatenates_S13000x128_S1300000x128_S1313000x128_d0

/-- The small columns' row numbers followed by the large columns'. -/
def stackRows (a b : S13x4096.Idx → BitVec 32) : S26x4096.Idx → BitVec 32 :=
  concatenate S26x4096 0 [⟨S13x4096, a⟩, ⟨S13x4096, b⟩] concatenates_S13x4096_S13x4096_S26x4096_d0

/-- @main before the SparseCore call. -/
abbrev preOps : List (HloOp τ sig (Elt F)) :=
  [ unary main_arg1 main_v0 ((extractStridedSlice S1x1 ![0, 0] · slices_S4096x13_S1x1_0_0) : (⟨S4096x13, .f32⟩ : BufTy).Contents (Elt F) → (⟨S1x1, .f32⟩ : BufTy).Contents (Elt F)),
    reshape main_v0 main_v1 (rfl : (.f32 : EltTy) = .f32) shapeCasts_S1x1_S_,
    nullary main_cst (constant S_ .f32 0x00000000#32),
    binary main_cst main_v1 main_v2 (mulf : (⟨S_, .f32⟩ : BufTy).Contents (Elt F) → (⟨S_, .f32⟩ : BufTy).Contents (Elt F) → (⟨S_, .f32⟩ : BufTy).Contents (Elt F)),
    nullary main_cst_0 (constant S_ .f32 0x3F800000#32),
    binary main_cst_0 main_v2 main_v3 (addf : (⟨S_, .f32⟩ : BufTy).Contents (Elt F) → (⟨S_, .f32⟩ : BufTy).Contents (Elt F) → (⟨S_, .f32⟩ : BufTy).Contents (Elt F)),
    unary main_v3 main_v4 (broadcastInDim S13x1000x50 ![] bcast_S_S13x1000x50 : (⟨S_, .f32⟩ : BufTy).Contents (Elt F) → (⟨S13x1000x50, .f32⟩ : BufTy).Contents (Elt F)),
    binary main_arg2 main_v4 main_v5 (mulf : (⟨S13x1000x50, .f32⟩ : BufTy).Contents (Elt F) → (⟨S13x1000x50, .f32⟩ : BufTy).Contents (Elt F) → (⟨S13x1000x50, .f32⟩ : BufTy).Contents (Elt F)),
    nullary main_c (constantI S_ 32 0#32),
    TRef.unary (.of main_c : TRef sig ⟨S_, .i32⟩) main_call0.v0 (sitofp .f32),
    TRef.binary (.of main_v5 : TRef sig ⟨S13x1000x50, .f32⟩) main_call0.v0 main_call0.v1 (fun x v => pad S13x1000x128 ![0, 0, 0] ![0, 0, 78] ![0, 0, 0] x v pads_S13x1000x50_S13x1000x128_000_000_0780 h_S_),
    reshape main_v6 main_v7 (rfl : (.f32 : EltTy) = .f32) shapeCasts_S13x1000x128_S13000x128,
    unary main_v3 main_v8 (broadcastInDim S13x100000x50 ![] bcast_S_S13x100000x50 : (⟨S_, .f32⟩ : BufTy).Contents (Elt F) → (⟨S13x100000x50, .f32⟩ : BufTy).Contents (Elt F)),
    binary main_arg3 main_v8 main_v9 (mulf : (⟨S13x100000x50, .f32⟩ : BufTy).Contents (Elt F) → (⟨S13x100000x50, .f32⟩ : BufTy).Contents (Elt F) → (⟨S13x100000x50, .f32⟩ : BufTy).Contents (Elt F)),
    nullary main_c_1 (constantI S_ 32 0#32),
    TRef.unary (.of main_c_1 : TRef sig ⟨S_, .i32⟩) main_call1.v0 (sitofp .f32),
    TRef.binary (.of main_v9 : TRef sig ⟨S13x100000x50, .f32⟩) main_call1.v0 main_call1.v1 (fun x v => pad S13x100000x128 ![0, 0, 0] ![0, 0, 78] ![0, 0, 0] x v pads_S13x100000x50_S13x100000x128_000_000_0780 h_S_),
    reshape main_v10 main_v11 (rfl : (.f32 : EltTy) = .f32) shapeCasts_S13x100000x128_S1300000x128,
    binary main_v7 main_v11 main_v12 (stackTables : (⟨S13000x128, .f32⟩ : BufTy).Contents (Elt F) → (⟨S1300000x128, .f32⟩ : BufTy).Contents (Elt F) → (⟨S1313000x128, .f32⟩ : BufTy).Contents (Elt F)),
    nullary main_v13 (iotaInDim S13 32 0),
    nullary main_c_2 (constantI S_ 32 1000#32),
    unary main_c_2 main_v14 (broadcastInDim S13 ![] bcast_S_S13 : (⟨S_, .i32⟩ : BufTy).Contents (Elt F) → (⟨S13, .i32⟩ : BufTy).Contents (Elt F)),
    binary main_v13 main_v14 main_v15 (muli : (⟨S13, .i32⟩ : BufTy).Contents (Elt F) → (⟨S13, .i32⟩ : BufTy).Contents (Elt F) → (⟨S13, .i32⟩ : BufTy).Contents (Elt F)),
    unary main_v15 main_v16 (broadcastInDim S13x1 ![0] bcast_S13_S13x1_0 : (⟨S13, .i32⟩ : BufTy).Contents (Elt F) → (⟨S13x1, .i32⟩ : BufTy).Contents (Elt F)),
    nullary main_v17 (iotaInDim S13 32 0),
    nullary main_c_3 (constantI S_ 32 100000#32),
    unary main_c_3 main_v18 (broadcastInDim S13 ![] bcast_S_S13 : (⟨S_, .i32⟩ : BufTy).Contents (Elt F) → (⟨S13, .i32⟩ : BufTy).Contents (Elt F)),
    binary main_v17 main_v18 main_v19 (muli : (⟨S13, .i32⟩ : BufTy).Contents (Elt F) → (⟨S13, .i32⟩ : BufTy).Contents (Elt F) → (⟨S13, .i32⟩ : BufTy).Contents (Elt F)),
    unary main_v19 main_v20 (broadcastInDim S13x1 ![0] bcast_S13_S13x1_0 : (⟨S13, .i32⟩ : BufTy).Contents (Elt F) → (⟨S13x1, .i32⟩ : BufTy).Contents (Elt F)),
    nullary main_c_4 (constantI S_ 32 13000#32),
    unary main_c_4 main_v21 (broadcastInDim S13x1 ![] bcast_S_S13x1 : (⟨S_, .i32⟩ : BufTy).Contents (Elt F) → (⟨S13x1, .i32⟩ : BufTy).Contents (Elt F)),
    binary main_v21 main_v20 main_v22 (addi : (⟨S13x1, .i32⟩ : BufTy).Contents (Elt F) → (⟨S13x1, .i32⟩ : BufTy).Contents (Elt F) → (⟨S13x1, .i32⟩ : BufTy).Contents (Elt F)),
    unary main_arg0 main_v23 ((transpose S26x4096 [1, 0] · transposes_S4096x26_S26x4096_1_0) : (⟨S4096x26, .i32⟩ : BufTy).Contents (Elt F) → (⟨S26x4096, .i32⟩ : BufTy).Contents (Elt F)),
    unary main_v23 main_v24 ((extractStridedSlice S13x4096 ![0, 0] · slices_S26x4096_S13x4096_0_0) : (⟨S26x4096, .i32⟩ : BufTy).Contents (Elt F) → (⟨S13x4096, .i32⟩ : BufTy).Contents (Elt F)),
    unary main_v16 main_v25 (broadcastInDim S13x4096 ![0, 1] bcast_S13x1_S13x4096_0_1 : (⟨S13x1, .i32⟩ : BufTy).Contents (Elt F) → (⟨S13x4096, .i32⟩ : BufTy).Contents (Elt F)),
    binary main_v24 main_v25 main_v26 (addi : (⟨S13x4096, .i32⟩ : BufTy).Contents (Elt F) → (⟨S13x4096, .i32⟩ : BufTy).Contents (Elt F) → (⟨S13x4096, .i32⟩ : BufTy).Contents (Elt F)),
    unary main_v23 main_v27 ((extractStridedSlice S13x4096 ![13, 0] · slices_S26x4096_S13x4096_13_0) : (⟨S26x4096, .i32⟩ : BufTy).Contents (Elt F) → (⟨S13x4096, .i32⟩ : BufTy).Contents (Elt F)),
    unary main_v22 main_v28 (broadcastInDim S13x4096 ![0, 1] bcast_S13x1_S13x4096_0_1 : (⟨S13x1, .i32⟩ : BufTy).Contents (Elt F) → (⟨S13x4096, .i32⟩ : BufTy).Contents (Elt F)),
    binary main_v27 main_v28 main_v29 (addi : (⟨S13x4096, .i32⟩ : BufTy).Contents (Elt F) → (⟨S13x4096, .i32⟩ : BufTy).Contents (Elt F) → (⟨S13x4096, .i32⟩ : BufTy).Contents (Elt F)),
    binary main_v26 main_v29 main_v30 (stackRows : (⟨S13x4096, .i32⟩ : BufTy).Contents (Elt F) → (⟨S13x4096, .i32⟩ : BufTy).Contents (Elt F) → (⟨S26x4096, .i32⟩ : BufTy).Contents (Elt F)),
    reshape main_v30 main_v31 (rfl : (.i32 : EltTy) = .i32) shapeCasts_S26x4096_S106496,
    nullary main_cst_5 (constant S_ .f32 0x3F800054#32),
    unary main_cst_5 main_v32 (Host.sqrt : (⟨S_, .f32⟩ : BufTy).Contents (Elt F) → (⟨S_, .f32⟩ : BufTy).Contents (Elt F)),
    unary main_v32 main_v33 (id : (⟨S_, .f32⟩ : BufTy).Contents (Elt F) → (⟨S_, .f32⟩ : BufTy).Contents (Elt F)),
    unary main_v33 main_v34 (broadcastInDim S512 ![] bcast_S_S512 : (⟨S_, .f32⟩ : BufTy).Contents (Elt F) → (⟨S512, .f32⟩ : BufTy).Contents (Elt F)),
    binary main_arg6 main_v34 main_v35 (Host.divf : (⟨S512, .f32⟩ : BufTy).Contents (Elt F) → (⟨S512, .f32⟩ : BufTy).Contents (Elt F) → (⟨S512, .f32⟩ : BufTy).Contents (Elt F)),
    unary main_v35 main_v36 (broadcastInDim S1x512 ![1] bcast_S512_S1x512_1 : (⟨S512, .f32⟩ : BufTy).Contents (Elt F) → (⟨S1x512, .f32⟩ : BufTy).Contents (Elt F)),
    unary main_v36 main_v37 (broadcastInDim S256x512 ![0, 1] bcast_S1x512_S256x512_0_1 : (⟨S1x512, .f32⟩ : BufTy).Contents (Elt F) → (⟨S256x512, .f32⟩ : BufTy).Contents (Elt F)),
    binary main_arg8 main_v37 main_v38 (mulf : (⟨S256x512, .f32⟩ : BufTy).Contents (Elt F) → (⟨S256x512, .f32⟩ : BufTy).Contents (Elt F) → (⟨S256x512, .f32⟩ : BufTy).Contents (Elt F)),
    unary main_v38 main_v39 ((transpose S512x256 [1, 0] · transposes_S256x512_S512x256_1_0) : (⟨S256x512, .f32⟩ : BufTy).Contents (Elt F) → (⟨S512x256, .f32⟩ : BufTy).Contents (Elt F)),
    unary main_v39 main_v40 ((truncf .bf16 · bitsLt_bf16_f32) : (⟨S512x256, .f32⟩ : BufTy).Contents (Elt F) → (⟨S512x256, .bf16⟩ : BufTy).Contents (Elt F)),
    binary main_arg8 main_arg7 main_v41 ((fun l r => Host.dotGeneral dot_S256x512_S512_S256_1_0_0_n_n_n none l r) : (⟨S256x512, .f32⟩ : BufTy).Contents (Elt F) → (⟨S512, .f32⟩ : BufTy).Contents (Elt F) → (⟨S256, .f32⟩ : BufTy).Contents (Elt F)),
    binary main_arg9 main_v41 main_v42 (addf : (⟨S256, .f32⟩ : BufTy).Contents (Elt F) → (⟨S256, .f32⟩ : BufTy).Contents (Elt F) → (⟨S256, .f32⟩ : BufTy).Contents (Elt F)),
    unary main_arg4 main_v43 ((extractStridedSlice S512x1300 ![0, 0] · slices_S512x1313_S512x1300_0_0) : (⟨S512x1313, .f32⟩ : BufTy).Contents (Elt F) → (⟨S512x1300, .f32⟩ : BufTy).Contents (Elt F)),
    unary main_v43 main_v44 ((transpose S1300x512 [1, 0] · transposes_S512x1300_S1300x512_1_0) : (⟨S512x1300, .f32⟩ : BufTy).Contents (Elt F) → (⟨S1300x512, .f32⟩ : BufTy).Contents (Elt F)),
    reshape main_v44 main_v45 (rfl : (.f32 : EltTy) = .f32) shapeCasts_S1300x512_S26x50x512,
    unary main_v45 main_v46 ((truncf .bf16 · bitsLt_bf16_f32) : (⟨S26x50x512, .f32⟩ : BufTy).Contents (Elt F) → (⟨S26x50x512, .bf16⟩ : BufTy).Contents (Elt F)),
    nullary main_c_6 (constantI S_ 32 0#32),
    TRef.unary (.of main_c_6 : TRef sig ⟨S_, .i32⟩) main_call2.v0 (sitofp .bf16),
    TRef.binary (.of main_v46 : TRef sig ⟨S26x50x512, .bf16⟩) main_call2.v0 main_call2.v1 (fun x v => pad S26x128x512 ![0, 0, 0] ![0, 78, 0] ![0, 0, 0] x v pads_S26x50x512_S26x128x512_000_0780_000 h_S_),
    unary main_arg4 main_v48 ((extractStridedSlice S512x13 ![0, 1300] · slices_S512x1313_S512x13_0_1300) : (⟨S512x1313, .f32⟩ : BufTy).Contents (Elt F) → (⟨S512x13, .f32⟩ : BufTy).Contents (Elt F)),
    unary main_v48 main_v49 ((transpose S13x512 [1, 0] · transposes_S512x13_S13x512_1_0) : (⟨S512x13, .f32⟩ : BufTy).Contents (Elt F) → (⟨S13x512, .f32⟩ : BufTy).Contents (Elt F)),
    unary main_v49 main_v50 ((truncf .bf16 · bitsLt_bf16_f32) : (⟨S13x512, .f32⟩ : BufTy).Contents (Elt F) → (⟨S13x512, .bf16⟩ : BufTy).Contents (Elt F)) ]

/-- @main between the SparseCore call and the pipeline. -/
abbrev midOps : List (HloOp τ sig (Elt F)) :=
  [ unary main_arg1 main_v52 ((truncf .bf16 · bitsLt_bf16_f32) : (⟨S4096x13, .f32⟩ : BufTy).Contents (Elt F) → (⟨S4096x13, .bf16⟩ : BufTy).Contents (Elt F)),
    unary main_arg5 main_v53 (broadcastInDim S1x512 ![1] bcast_S512_S1x512_1 : (⟨S512, .f32⟩ : BufTy).Contents (Elt F) → (⟨S1x512, .f32⟩ : BufTy).Contents (Elt F)),
    unary main_v42 main_v54 (broadcastInDim S1x256 ![1] bcast_S256_S1x256_1 : (⟨S256, .f32⟩ : BufTy).Contents (Elt F) → (⟨S1x256, .f32⟩ : BufTy).Contents (Elt F)),
    unary main_arg10 main_v55 ((transpose S256x128 [1, 0] · transposes_S128x256_S256x128_1_0) : (⟨S128x256, .f32⟩ : BufTy).Contents (Elt F) → (⟨S256x128, .f32⟩ : BufTy).Contents (Elt F)),
    unary main_v55 main_v56 ((truncf .bf16 · bitsLt_bf16_f32) : (⟨S256x128, .f32⟩ : BufTy).Contents (Elt F) → (⟨S256x128, .bf16⟩ : BufTy).Contents (Elt F)),
    unary main_arg11 main_v57 (broadcastInDim S1x128 ![1] bcast_S128_S1x128_1 : (⟨S128, .f32⟩ : BufTy).Contents (Elt F) → (⟨S1x128, .f32⟩ : BufTy).Contents (Elt F)),
    unary main_arg12 main_v58 ((transpose S128x1 [1, 0] · transposes_S1x128_S128x1_1_0) : (⟨S1x128, .f32⟩ : BufTy).Contents (Elt F) → (⟨S128x1, .f32⟩ : BufTy).Contents (Elt F)),
    unary main_v58 main_v59 ((truncf .bf16 · bitsLt_bf16_f32) : (⟨S128x1, .f32⟩ : BufTy).Contents (Elt F) → (⟨S128x1, .bf16⟩ : BufTy).Contents (Elt F)),
    unary main_arg13 main_v60 (broadcastInDim S1x1 ![1] bcast_S1_S1x1_1 : (⟨S1, .f32⟩ : BufTy).Contents (Elt F) → (⟨S1x1, .f32⟩ : BufTy).Contents (Elt F)) ]

/-- @main after the pipeline. -/
abbrev endOps : List (HloOp τ sig (Elt F)) :=
  [ reshape main_v61 main_v62 (rfl : (.f32 : EltTy) = .f32) shapeCasts_S4096x1_S4096 ]

/-- What `preOps` write. -/
abbrev preOps_W : List (Ref sig .tc) :=
  [main_v0, main_v1, main_cst, main_v2, main_cst_0, main_v3, main_v4, main_v5, main_c, main_call0_v0, main_v6, main_v7, main_v8, main_v9, main_c_1, main_call1_v0, main_v10, main_v11, main_v12, main_v13, main_c_2, main_v14, main_v15, main_v16, main_v17, main_c_3, main_v18, main_v19, main_v20, main_c_4, main_v21, main_v22, main_v23, main_v24, main_v25, main_v26, main_v27, main_v28, main_v29, main_v30, main_v31, main_cst_5, main_v32, main_v33, main_v34, main_v35, main_v36, main_v37, main_v38, main_v39, main_v40, main_v41, main_v42, main_v43, main_v44, main_v45, main_v46, main_c_6, main_call2_v0, main_v47, main_v48, main_v49, main_v50]

/-- What `midOps` write. -/
abbrev midOps_W : List (Ref sig .tc) :=
  [main_v52, main_v53, main_v54, main_v55, main_v56, main_v57, main_v58, main_v59, main_v60]

/-- What `endOps` write. -/
abbrev endOps_W : List (Ref sig .tc) :=
  [main_v62]

set_option maxRecDepth 8192 in
theorem main_part0_eq (d : Dev nD) : main_part0 (F := F) d = seq preOps := rfl

set_option maxRecDepth 8192 in
theorem main_part1_eq (d : Dev nD) : main_part1 (F := F) d
    = (sc (F := F).run d 0 >>= fun _ => seq midOps >>= fun _ =>
        (Prog.lift (.customCall (SparseCore.inner (Pipeline.entry 0)) ()) : Prog (TpuEff nD τ sig (Elt F) (SparseCore.Sig (Pipeline.Sig Λ₀ (Fin 1) fun p => (pcfgs (F := F) p).Adm) 1) .tc) PUnit) >>= fun _ => seq endOps) := rfl

theorem main_eq (d : Dev nD) : main (F := F) d
    = (seq preOps >>= fun _ => sc (F := F).run d 0 >>= fun _ => seq midOps >>= fun _ =>
        (Prog.lift (.customCall (SparseCore.inner (Pipeline.entry 0)) ()) : Prog (TpuEff nD τ sig (Elt F) (SparseCore.Sig (Pipeline.Sig Λ₀ (Fin 1) fun p => (pcfgs (F := F) p).Adm) 1) .tc) PUnit) >>= fun _ => seq endOps) := by
  show (main_part0 d >>= fun _ => main_part1 d) = _
  rw [main_part0_eq, main_part1_eq]

/-! ## What they touch -/

set_option maxRecDepth 8192 in
theorem preOps_sub : (preOps : List (HloOp τ sig (Elt F))).Forall fun op => op.bufs ⊆ tcRefs τ sig :=
  ⟨unary_bufs_sub .., reshape_bufs_sub .., nullary_bufs_sub .., binary_bufs_sub .., nullary_bufs_sub .., binary_bufs_sub .., unary_bufs_sub .., binary_bufs_sub .., nullary_bufs_sub .., unary_bufs_sub .., binary_bufs_sub .., reshape_bufs_sub .., unary_bufs_sub .., binary_bufs_sub .., nullary_bufs_sub .., unary_bufs_sub .., binary_bufs_sub .., reshape_bufs_sub .., binary_bufs_sub .., nullary_bufs_sub .., nullary_bufs_sub .., unary_bufs_sub .., binary_bufs_sub .., unary_bufs_sub .., nullary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., reshape_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., reshape_bufs_sub .., unary_bufs_sub .., nullary_bufs_sub .., unary_bufs_sub .., binary_bufs_sub .., unary_bufs_sub .., unary_bufs_sub .., unary_bufs_sub ..⟩
theorem midOps_sub : (midOps : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub ..⟩
theorem endOps_sub : (endOps : List (HloOp τ sig (Elt F))).Forall fun op => op.bufs ⊆ tcRefs τ sig := reshape_bufs_sub ..
set_option maxRecDepth 8192 in
theorem preOps_fresh : (preOps : List (HloOp τ sig (Elt F))).Forall fun op => op.fresh = ∅ := forall_fresh_of_map rfl
set_option maxRecDepth 8192 in
theorem preOps_keep (V : Valuation τ sig (Elt F)) (r : Ref sig .tc) (h : r ∉ preOps_W) : after preOps V (Proc.devRef .tc r) = V (Proc.devRef .tc r) :=
  after_of_writes_sub preOps V (forall_writes_sub_of_map rfl) h
set_option maxRecDepth 8192 in
theorem midOps_fresh : (midOps : List (HloOp τ sig (Elt F))).Forall fun op => op.fresh = ∅ := forall_fresh_of_map rfl
set_option maxRecDepth 8192 in
theorem midOps_keep (V : Valuation τ sig (Elt F)) (r : Ref sig .tc) (h : r ∉ midOps_W) : after midOps V (Proc.devRef .tc r) = V (Proc.devRef .tc r) :=
  after_of_writes_sub midOps V (forall_writes_sub_of_map rfl) h
set_option maxRecDepth 8192 in
theorem endOps_fresh : (endOps : List (HloOp τ sig (Elt F))).Forall fun op => op.fresh = ∅ := forall_fresh_of_map rfl
set_option maxRecDepth 8192 in
theorem endOps_keep (V : Valuation τ sig (Elt F)) (r : Ref sig .tc) (h : r ∉ endOps_W) : after endOps V (Proc.devRef .tc r) = V (Proc.devRef .tc r) :=
  after_of_writes_sub endOps V (forall_writes_sub_of_map rfl) h

/-! ## What they leave -/

/-- The scalar the tables are scaled by: 1 plus 0 times the first numeric feature. -/
def unit (x1 : FVec F S4096x13 .f32) : FVec F S_ .f32 :=
  addf (constant S_ .f32 0x3F800000#32)
    (mulf (constant S_ .f32 0x00000000#32) (shapeCast S_ (extractStridedSlice S1x1 ![0, 0] x1 slices_S4096x13_S1x1_0_0) shapeCasts_S1x1_S_))

/-- The small tables scaled and widened to 128 lanes. -/
def smallTables (x1 : FVec F S4096x13 .f32) (x2 : FVec F S13x1000x50 .f32) : FVec F S13000x128 .f32 :=
  shapeCast S13000x128 (pad S13x1000x128 ![0, 0, 0] ![0, 0, 78] ![0, 0, 0] (mulf x2 (broadcastInDim S13x1000x50 ![] bcast_S_S13x1000x50 (unit x1)))
    (sitofp .f32 (constantI S_ 32 0#32)) pads_S13x1000x50_S13x1000x128_000_000_0780 h_S_) shapeCasts_S13x1000x128_S13000x128

/-- The large tables scaled and widened to 128 lanes. -/
def largeTables (x1 : FVec F S4096x13 .f32) (x3 : FVec F S13x100000x50 .f32) : FVec F S1300000x128 .f32 :=
  shapeCast S1300000x128 (pad S13x100000x128 ![0, 0, 0] ![0, 0, 78] ![0, 0, 0] (mulf x3 (broadcastInDim S13x100000x50 ![] bcast_S_S13x100000x50 (unit x1)))
    (sitofp .f32 (constantI S_ 32 0#32)) pads_S13x100000x50_S13x100000x128_000_000_0780 h_S_) shapeCasts_S13x100000x128_S1300000x128

/-- The SparseCore call's table: every table's rows, 128 lanes each. -/
def tableOf (x1 : FVec F S4096x13 .f32) (x2 : FVec F S13x1000x50 .f32) (x3 : FVec F S13x100000x50 .f32) : FVec F S1313000x128 .f32 :=
  stackTables (smallTables x1 x2) (largeTables x1 x3)

/-- The first row of each small table. -/
def smallBase : S13x1.Idx → BitVec 32 :=
  broadcastInDim S13x1 ![0] bcast_S13_S13x1_0 (muli (iotaInDim S13 32 0) (broadcastInDim S13 ![] bcast_S_S13 (constantI S_ 32 1000#32)))

/-- The first row of each large table. -/
def largeBase : S13x1.Idx → BitVec 32 :=
  addi (broadcastInDim S13x1 ![] bcast_S_S13x1 (constantI S_ 32 13000#32))
    (broadcastInDim S13x1 ![0] bcast_S13_S13x1_0 (muli (iotaInDim S13 32 0) (broadcastInDim S13 ![] bcast_S_S13 (constantI S_ 32 100000#32))))

/-- The SparseCore call's row numbers, column by column. -/
def rowsOf (x0 : S4096x26.Idx → BitVec 32) : S106496.Idx → BitVec 32 :=
  shapeCast S106496 (stackRows
    (addi (extractStridedSlice S13x4096 ![0, 0] (transpose S26x4096 [1, 0] x0 transposes_S4096x26_S26x4096_1_0) slices_S26x4096_S13x4096_0_0)
      (broadcastInDim S13x4096 ![0, 1] bcast_S13x1_S13x4096_0_1 smallBase))
    (addi (extractStridedSlice S13x4096 ![13, 0] (transpose S26x4096 [1, 0] x0 transposes_S4096x26_S26x4096_1_0) slices_S26x4096_S13x4096_13_0)
      (broadcastInDim S13x4096 ![0, 1] bcast_S13x1_S13x4096_0_1 largeBase))) shapeCasts_S26x4096_S106496

/-- The second layer's weights with the normalization's scale folded in. -/
def w2Of (x6 : FVec F S512 .f32) (x8 : FVec F S256x512 .f32) : FVec F S512x256 .bf16 :=
  truncf .bf16 (transpose S512x256 [1, 0] (mulf x8 (broadcastInDim S256x512 ![0, 1] bcast_S1x512_S256x512_0_1
    (broadcastInDim S1x512 ![1] bcast_S512_S1x512_1 (Host.divf x6 (broadcastInDim S512 ![] bcast_S_S512 (id (Host.sqrt (constant S_ .f32 0x3F800054#32))))))))
    transposes_S256x512_S512x256_1_0) bitsLt_bf16_f32

/-- The second layer's bias with the normalization's shift folded in. -/
def b2Of (x7 : FVec F S512 .f32) (x8 : FVec F S256x512 .f32) (x9 : FVec F S256 .f32) : FVec F S256 .f32 :=
  addf x9 (Host.dotGeneral dot_S256x512_S512_S256_1_0_0_n_n_n none x8 x7)

/-- The first layer's weights for the gathered features, 128 lanes a column. -/
def w1pOf (x4 : FVec F S512x1313 .f32) : FVec F S26x128x512 .bf16 :=
  pad S26x128x512 ![0, 0, 0] ![0, 78, 0] ![0, 0, 0]
    (truncf .bf16 (shapeCast S26x50x512 (transpose S1300x512 [1, 0] (extractStridedSlice S512x1300 ![0, 0] x4 slices_S512x1313_S512x1300_0_0)
      transposes_S512x1300_S1300x512_1_0) shapeCasts_S1300x512_S26x50x512) bitsLt_bf16_f32)
    (sitofp .bf16 (constantI S_ 32 0#32)) pads_S26x50x512_S26x128x512_000_0780_000 h_S_

/-- The first layer's weights for the numeric features. -/
def w1nOf (x4 : FVec F S512x1313 .f32) : FVec F S13x512 .bf16 :=
  truncf .bf16 (transpose S13x512 [1, 0] (extractStridedSlice S512x13 ![0, 1300] x4 slices_S512x1313_S512x13_0_1300)
    transposes_S512x13_S13x512_1_0) bitsLt_bf16_f32

variable (V : Valuation τ sig (Elt F))

set_option maxRecDepth 8192 in
set_option maxHeartbeats 2000000 in
theorem pre_v12 : after preOps V (Proc.devRef .tc main_v12)
    = tableOf (V (Proc.devRef .tc main_arg1)) (V (Proc.devRef .tc main_arg2)) (V (Proc.devRef .tc main_arg3)) := by
  simp only [preOps, TRef.binary, TRef.nullary, TRef.unary, TRef.toBuf, TRef.ofBuf, cast_eq]
  after_results_simp
  rfl

set_option maxRecDepth 8192 in
set_option maxHeartbeats 2000000 in
theorem pre_v31 : after preOps V (Proc.devRef .tc main_v31) = rowsOf (V (Proc.devRef .tc main_arg0)) := by
  simp only [preOps, TRef.binary, TRef.nullary, TRef.unary, TRef.toBuf, TRef.ofBuf, cast_eq]
  after_results_simp
  rfl

set_option maxRecDepth 8192 in
set_option maxHeartbeats 2000000 in
theorem pre_v40 : after preOps V (Proc.devRef .tc main_v40) = w2Of (V (Proc.devRef .tc main_arg6)) (V (Proc.devRef .tc main_arg8)) := by
  simp only [preOps, TRef.binary, TRef.nullary, TRef.unary, TRef.toBuf, TRef.ofBuf, cast_eq]
  after_results_simp
  rfl

set_option maxRecDepth 8192 in
set_option maxHeartbeats 2000000 in
theorem pre_v42 : after preOps V (Proc.devRef .tc main_v42)
    = b2Of (V (Proc.devRef .tc main_arg7)) (V (Proc.devRef .tc main_arg8)) (V (Proc.devRef .tc main_arg9)) := by
  simp only [preOps, TRef.binary, TRef.nullary, TRef.unary, TRef.toBuf, TRef.ofBuf, cast_eq]
  after_results_simp
  rfl

set_option maxRecDepth 8192 in
set_option maxHeartbeats 2000000 in
theorem pre_v47 : after preOps V (Proc.devRef .tc main_v47) = w1pOf (V (Proc.devRef .tc main_arg4)) := by
  simp only [preOps, TRef.binary, TRef.nullary, TRef.unary, TRef.toBuf, TRef.ofBuf, cast_eq]
  after_results_simp
  rfl

set_option maxRecDepth 8192 in
set_option maxHeartbeats 2000000 in
theorem pre_v50 : after preOps V (Proc.devRef .tc main_v50) = w1nOf (V (Proc.devRef .tc main_arg4)) := by
  simp only [preOps, TRef.binary, TRef.nullary, TRef.unary, TRef.toBuf, TRef.ofBuf, cast_eq]
  after_results_simp
  rfl

theorem mid_v52 : after midOps V (Proc.devRef .tc main_v52) = truncf .bf16 (V (Proc.devRef .tc main_arg1) : FVec F S4096x13 .f32) bitsLt_bf16_f32 := by
  simp only [midOps]
  after_results_simp
theorem mid_v53 : after midOps V (Proc.devRef .tc main_v53)
    = broadcastInDim S1x512 ![1] bcast_S512_S1x512_1 (V (Proc.devRef .tc main_arg5) : FVec F S512 .f32) := by
  simp only [midOps]
  after_results_simp
theorem mid_v54 : after midOps V (Proc.devRef .tc main_v54)
    = broadcastInDim S1x256 ![1] bcast_S256_S1x256_1 (V (Proc.devRef .tc main_v42) : FVec F S256 .f32) := by
  simp only [midOps]
  after_results_simp
theorem mid_v56 : after midOps V (Proc.devRef .tc main_v56)
    = truncf .bf16 (transpose S256x128 [1, 0] (V (Proc.devRef .tc main_arg10) : FVec F S128x256 .f32) transposes_S128x256_S256x128_1_0) bitsLt_bf16_f32 := by
  simp only [midOps]
  after_results_simp
theorem mid_v57 : after midOps V (Proc.devRef .tc main_v57)
    = broadcastInDim S1x128 ![1] bcast_S128_S1x128_1 (V (Proc.devRef .tc main_arg11) : FVec F S128 .f32) := by
  simp only [midOps]
  after_results_simp
theorem mid_v59 : after midOps V (Proc.devRef .tc main_v59)
    = truncf .bf16 (transpose S128x1 [1, 0] (V (Proc.devRef .tc main_arg12) : FVec F S1x128 .f32) transposes_S1x128_S128x1_1_0) bitsLt_bf16_f32 := by
  simp only [midOps]
  after_results_simp
theorem mid_v60 : after midOps V (Proc.devRef .tc main_v60)
    = broadcastInDim S1x1 ![1] bcast_S1_S1x1_1 (V (Proc.devRef .tc main_arg13) : FVec F S1 .f32) := by
  simp only [midOps]
  after_results_simp
theorem end_v62 : after endOps V (Proc.devRef .tc main_v62)
    = shapeCast S4096 (V (Proc.devRef .tc main_v61) : FVec F S4096x1 .f32) shapeCasts_S4096x1_S4096 := by
  simp only [endOps]
  after_results_simp
  rfl

end Cert.KernelIdeal.Run

end
-- ==== Proof.Ideal.Rows.lean ====
/-
  The row numbers the SparseCore call gathers, read one by one: every column's indices offset by its table's first row, each of them
  a row of the stacked table when the indices are in range.
-/
module

public import proofs.«01_k».proof.Proof.Ideal.Host
public import Idealize.ShloMosaic.Lib.Pointwise

@[expose] public section

noncomputable section

namespace Cert.KernelIdeal.Run

open Cert.KernelIdeal Cert.KernelIdeal.Gen

open Idealize.ShloMosaic

/-- The first row of column `c`'s table. -/
def baseOf (c : ℕ) : ℕ := if c < 13 then c * 1000 else 13000 + (c - 13) * 100000

theorem rowsOf_apply (x0 : S4096x26.Idx → BitVec 32) (j : S106496.Idx) (c : Fin 26) (b : Fin 4096) (h : (j 0).val = c.val * 4096 + b.val) :
    rowsOf x0 j = x0 (ix2 b c) + BitVec.ofNat 32 (baseOf c.val) := by
  idx_vars j
  replace h : j0.val = c.val * 4096 + b.val := h
  have hb := b.isLt
  have e1 : j0.val / 4096 = c.val := by omega
  have e2 : j0.val % 4096 = b.val := by omega
  pointwise [rowsOf, stackRows, smallBase, largeBase, baseOf]
  simp only [e1, e2, IntOp.addi, IntOp.muli]
  split
  · rw [BitVec.ofNat_mul]
  · rename_i hc
    have e3 : 13 + (c.val - 13) = c.val := by omega
    simp only [e3, BitVec.ofNat_add, BitVec.ofNat_mul]

/-- An index in range, offset by its table's first row, is that row's number. -/
theorem row_toNat (w : BitVec 32) (hw : w.toNat < 1000) (c : Fin 26) : (w + BitVec.ofNat 32 (baseOf c.val)).toNat = baseOf c.val + w.toNat := by
  have hc := c.isLt
  have hb : baseOf c.val ≤ 1213000 := by unfold baseOf; split <;> omega
  rw [BitVec.toNat_add, BitVec.toNat_ofNat]
  omega

theorem rows_lt (x0 : S4096x26.Idx → BitVec 32) (hx : ∀ i, (x0 i).toNat < 1000) (j : S106496.Idx) : (rowsOf x0 j).toNat < 1313000 := by
  have hj : (j 0).val < 106496 := (j 0).isLt
  rw [rowsOf_apply x0 j ⟨(j 0).val / 4096, by omega⟩ ⟨(j 0).val % 4096, by omega⟩ (by show _ = (j 0).val / 4096 * 4096 + (j 0).val % 4096; omega), row_toNat _ (hx _)]
  have := hx (ix2 ⟨(j 0).val % 4096, by omega⟩ ⟨(j 0).val / 4096, by omega⟩)
  have hb : baseOf ((j 0).val / 4096) ≤ 1213000 := by unfold baseOf; split <;> omega
  show baseOf ((j 0).val / 4096) + _ < _
  omega

/-- A word not below 0 and below 1000, both compared signed, is below 1000. -/
theorem lt_of_signed (v : BitVec 32) (e : IntOp.andi (IntOp.cmpi .sge v 0#32) (IntOp.cmpi .slt v 1000#32) = 1#1) : v.toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.KernelIdeal.Run

end
-- ==== Proof.Ideal.Main.lean ====
/-
  The whole program: @main on the TensorCore — the host lines, the SparseCore call, the host lines after it, the TensorCore pipeline,
  the closing reshape — followed as one valuation of the TensorCore's buffers, and what the launch theorem makes of it.
-/
module

public import proofs.«01_k».proof.Proof.Ideal.Call
public import proofs.«01_k».proof.Proof.Ideal.Region
public import proofs.«01_k».proof.Proof.Ideal.Rows
public import Idealize.ShloMosaic.Lib.Pipeline.Frame

@[expose] public section

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held seq after)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's buffers after each step -/

/-- After the host lines before the SparseCore call. -/
def V1 (d : Dev nD) : Valuation τ sig (Elt F) := after preOps (fun b => m (d, b))
/-- The call's operands: the table, the row indices, and the output before the call. -/
abbrev tabV (d : Dev nD) : Buf (Elt F) (tLoc d) := V1 m d (Proc.devRef .tc main_v12)
abbrev idxV (d : Dev nD) : Buf (Elt F) (iLoc d) := V1 m d (Proc.devRef .tc main_v31)
abbrev outV (d : Dev nD) : Buf (Elt F) (oLoc d) := V1 m d (Proc.devRef .tc main_v51)
/-- After the SparseCore call. -/
def V2 (d : Dev nD) : Valuation τ sig (Elt F) :=
  Function.update (V1 m d) (Proc.devRef .tc main_v51) (gath (tabV m d) (idxV m d) : Buf (Elt F) (oLoc d))
/-- After the host lines between the call and the pipeline. -/
def V3 (d : Dev nD) : Valuation τ sig (Elt F) := after midOps (V2 m d)
/-- After the pipeline. -/
def V4 (d : Dev nD) : Valuation τ sig (Elt F) := Pipeline.afterRegion (pdats (V3 m) 0 d) (V3 m d)
/-- At the end. -/
def V5 (d : Dev nD) : Valuation τ sig (Elt F) := after endOps (V4 m d)

/-- What the program computes: the pipeline's output column as a vector. -/
def outOf (d : Dev nD) : FVec F S4096 .f32 := shapeCast S4096 (result (V3 m) d : FVec F S4096x1 .f32) shapeCasts_S4096x1_S4096

/-! ## The ghost state -/

def u₀ : UU := (initOf (K (F := F)).hsCells (K (F := F)).hsToks,
  (initOf (Pipeline.cells cfgs Gen.cellOf_inj) (Pipeline.launchToks cfgs Gen.cellOf_inj), 1))

/-- A TensorCore's part of the pipeline's ghost state. -/
abbrev G (d : Dev nD) : sProp 𝕄 := iprop(Pipeline.cellsGhost cfgs EP 0 d ∗ Pipeline.toksInit cfgs EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (tabV m) (idxV m) (outV m)).x q thr) := by
  unfold u₀
  iintro Hu
  ihave H := (ownU_pair (initOf (K (F := F)).hsCells (K (F := F)).hsToks) (_ : UP × Counters)) $$ Hu
  icases H with ⟨HH, HR⟩
  ihave H2 := (own_pair_emb _ _ _) $$ HR
  icases H2 with ⟨HP, -⟩
  ihave HP' := (show (BI.own (((Emb.inl : Emb UP (UP × Counters)).trans embR) (initOf (Pipeline.cells cfgs Gen.cellOf_inj) (Pipeline.launchToks cfgs Gen.cellOf_inj))) : sProp 𝕄)
    ⊢ BI.own (EP (initOf (Pipeline.cells cfgs Gen.cellOf_inj) (Pipeline.launchToks cfgs Gen.cellOf_inj))) from BI.Entails.refl _) $$ HP
  imod (Pipeline.fund_ghost cfgs (EP (F := F)) Gen.cellOf_inj) $$ HP' with ⟨Hg, Ht⟩
  imodintro
  isplitl [HH]; · iexact HH
  isplitl [Hg Ht]
  · rw [bigSep_sep']
    isplitl [Hg]
    · rw [show (bigSep Finset.univ fun d : Dev nD => (Pipeline.cellsGhost cfgs (EP (F := F)) 0 d : sProp 𝕄)) = bigSep Finset.univ fun c : Dev nD => bigSep Finset.univ fun p : Fin 1 => Pipeline.cellsGhost cfgs EP p c from
        bigSep_congr fun d _ => (bigSep_univ_of_subsingleton (Φ := fun p : Fin 1 => (Pipeline.cellsGhost cfgs (EP (F := F)) p d : sProp 𝕄)) (0 : Fin 1)).symm]
      iexact Hg
    · rw [show (bigSep Finset.univ fun d : Dev nD => (Pipeline.toksInit cfgs (EP (F := F)) 0 d : sProp 𝕄)) = bigSep Finset.univ fun c : Dev nD => bigSep Finset.univ fun p : Fin 1 => Pipeline.toksInit cfgs EP p c from
        bigSep_congr fun d _ => (bigSep_univ_of_subsingleton (Φ := fun p : Fin 1 => (Pipeline.toksInit cfgs (EP (F := F)) p d : sProp 𝕄)) (0 : Fin 1)).symm]
      iexact Ht
  rw [show (bigSep Finset.univ fun thr : Thread nD τ => bigSep Finset.univ fun q : Fin 1 => (P (F := F) (tabV m) (idxV m) (outV m)).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## The SparseCore call's operands out of the buffers held, and back -/

/-- The three buffers the SparseCore call works on. -/
def callRefs : Finset (DevRef τ sig) := {Proc.devRef .tc main_v31, Proc.devRef .tc main_v12, Proc.devRef .tc main_v51}

theorem ref_ne {x y : Ref sig .tc} (h : x ≠ y) : (Proc.devRef .tc x : DevRef τ sig) ≠ Proc.devRef .tc y := StableHlo.devRef_ne_of_ne h

theorem ref_mem (r : Ref sig .tc) (h : r.isScoped = false) : (Proc.devRef .tc r : DevRef τ sig) ∈ ucRefs τ sig :=
  Finset.mem_filter.mpr ⟨StableHlo.devRef_mem_tcRefs _, fun h' => Bool.false_ne_true (h.symm.trans h')⟩

theorem callRefs_sub : callRefs ⊆ ucRefs τ sig := by
  intro b hb
  unfold callRefs at hb
  rcases Finset.mem_insert.mp hb with rfl | hb
  · exact ref_mem main_v31 rfl
  rcases Finset.mem_insert.mp hb with rfl | hb
  · exact ref_mem main_v12 rfl
  rw [Finset.mem_singleton.mp hb]
  exact ref_mem main_v51 rfl

theorem held_callRefs (d : Dev nD) (W : Valuation τ sig (Elt F)) :
    (held (SparseCore.T d) callRefs W : sProp 𝕄)
      = iprop((iLoc d ↦{fullShare} (W (Proc.devRef .tc main_v31) : Buf (Elt F) (iLoc d))) ∗ (tLoc d ↦{fullShare} (W (Proc.devRef .tc main_v12) : Buf (Elt F) (tLoc d)))
        ∗ (oLoc d ↦{fullShare} (W (Proc.devRef .tc main_v51) : Buf (Elt F) (oLoc d)))) := by
  unfold held callRefs
  rw [SparseCore.bigSep_insert', SparseCore.bigSep_insert', bigSep_singleton]
  · exact fun h => ref_ne (x := main_v12) (y := main_v51) (by decide) (Finset.mem_singleton.mp h)
  · intro h
    rcases Finset.mem_insert.mp h with h | h
    · exact ref_ne (x := main_v31) (y := main_v12) (by decide) h
    · exact ref_ne (x := main_v31) (y := main_v51) (by decide) (Finset.mem_singleton.mp h)

theorem V2_off (d : Dev nD) : ∀ b ∈ ucRefs τ sig \ callRefs, V2 m d b = V1 m d b := fun b hb =>
  Function.update_of_ne (fun h => (Finset.mem_sdiff.mp hb).2 (by rw [h]; exact Finset.mem_insert_of_mem (Finset.mem_insert_of_mem (Finset.mem_singleton_self _)))) _ _

theorem V2_v51 (d : Dev nD) : V2 m d (Proc.devRef .tc main_v51) = (gath (tabV m d) (idxV m d) : Buf (Elt F) (oLoc d)) := Function.update_self _ _ _

theorem V2_keep (d : Dev nD) (r : Ref sig .tc) (h : r ≠ main_v51) : V2 m d (Proc.devRef .tc r) = V1 m d (Proc.devRef .tc r) :=
  Function.update_of_ne (ref_ne h) _ _

/-! ## @main on the TensorCore -/

abbrev FIN (d : Dev nD) : sProp 𝕄 := held (SparseCore.T d) (ucRefs τ sig) (V5 m d)

theorem arr_sub : Pipeline.arrRefs (τ := τ) (pcfgs (F := F) 0).spec ⊆ ucRefs τ sig :=
  Pipeline.arrRefs_sub_ucRefs _ (fun w => Gen.winFacts1.arr_unscoped w)

set_option backward.isDefEq.respectTransparency.types false in
/-- The host lines as a step of @main. -/
theorem host_step {β : Type} (d : Dev nD) (ops : List (HloOp τ sig (Elt F))) (hs : ops.Forall fun op => op.bufs ⊆ StableHlo.tcRefs τ sig)
    (hf : ops.Forall fun op => op.fresh = ∅) (W : Valuation τ sig (Elt F))
    (k : PUnit → Prog (TpuEff nD τ sig (Elt F) (SparseCore.Sig (ΛP (F := F)) 1) .tc) β) {Φ : β → sProp 𝕄} :
    iprop(boundary (SparseCore.T d) ∗ held (SparseCore.T d) (ucRefs τ sig) W
        ∗ ((boundary (SparseCore.T d) ∗ held (SparseCore.T d) (ucRefs τ sig) (after ops W))
          -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (seq ops >>= k) Φ := by
  iintro ⟨Hb, Hh, Hk⟩
  ihave Hp := (show iprop(boundary (SparseCore.T d) ∗ held (SparseCore.T d) (ucRefs τ sig) W) ⊢ (_ : sProp 𝕄) from
    StableHlo.wp_seq 𝒱 none Set.univ d (ucRefs τ sig) k ops (fun op h => Pipeline.sub_ucRefs op ((List.forall_iff_forall_mem.mp hs) op h))
      (fun op h => (List.forall_iff_forall_mem.mp hf) op h) W) $$ [Hb Hh]
  · isplitl [Hb] <;> iassumption
  iapply Hp
  iexact Hk

/-- The pipeline's step is entered from the buffers held and nothing owed, -/
theorem seg_pre (W : (c : Dev nD) → Valuation τ sig (Elt F)) (d : Dev nD) :
    iprop(held (d.tc : Thread nD τ) (ucRefs τ sig) (W d) ∗ ((∃ Wd, owes (d : Thread nD τ) (0 : CellTallies nD τ sig (HIx 1)) Wd) ∗ BI.emp ∗ BI.emp))
      ⊢ ((seg W (ucRefs τ sig) fun _ => BI.emp).pre d : sProp 𝕄) := by
  unfold seg
  exact Pipeline.RegionSeg.ofHeldIn_pre (pcs := pcfgs (F := F)) (a := adm) (pdats := pdats W) (ι := (none : HIx 1)) (defs₀ := defs₀ (F := F)) (𝒱₀ := 𝒱₀)
    (L := (K (F := F)).L) (lv := (K (F := F)).lev) (p := 0) (D := fun _ => 0) (S := ucRefs τ sig) (X := fun _ => BI.emp) (Y := fun _ => BI.emp)
    (R := fun _ => BI.emp) (W := W) arr_sub d
/-- and left with the buffers held at what the pipeline leaves. -/
theorem seg_post (W : (c : Dev nD) → Valuation τ sig (Elt F)) (d : Dev nD) :
    ((seg W (ucRefs τ sig) fun _ => BI.emp).post d : sProp 𝕄)
      ⊢ iprop(held (d.tc : Thread nD τ) (ucRefs τ sig) (Pipeline.afterRegion (pdats W 0 d) (W d))
          ∗ ((∃ Wd, owes (d : Thread nD τ) (0 : CellTallies nD τ sig (HIx 1)) Wd) ∗ BI.emp ∗ BI.emp)) := by
  unfold seg
  exact Pipeline.RegionSeg.ofHeldIn_post (pcs := pcfgs (F := F)) (a := adm) (pdats := pdats W) (ι := (none : HIx 1)) (defs₀ := defs₀ (F := F)) (𝒱₀ := 𝒱₀)
    (L := (K (F := F)).L) (lv := (K (F := F)).lev) (p := 0) (D := fun _ => 0) (S := ucRefs τ sig) (X := fun _ => BI.emp) (Y := fun _ => BI.emp)
    (R := fun _ => BI.emp) (W := W) arr_sub d

set_option backward.isDefEq.respectTransparency.types false in
/-- The pipeline's call as a step of @main. -/
theorem region_step [∀ e, Nonempty (Elt F e)] (d : Dev nD) (W : (c : Dev nD) → Valuation τ sig (Elt F)) {Φ : PUnit → sProp 𝕄} :
    iprop(boundary (SparseCore.T d) ∗ held (SparseCore.T d) (ucRefs τ sig) (W d) ∗ (∃ Wd, owes (SparseCore.T d) (0 : CellTallies nD τ sig (HIx 1)) Wd)
        ∗ levAts (K (F := F)).L (K (F := F)).lev ∗ G (F := F) d
        ∗ ((boundary (SparseCore.T d) ∗ held (SparseCore.T d) (ucRefs τ sig) (Pipeline.afterRegion (pdats W 0 d) (W d))
            ∗ ∃ Wd, owes (SparseCore.T d) (0 : CellTallies nD τ sig (HIx 1)) Wd) -∗ Φ ⟨⟩))
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit) Φ := by
  show (_ : sProp 𝕄) ⊢ wp frame (wpE ((K (F := F)).defs (D (F := F))) 𝒱 (SparseCore.T d) none) Set.univ
    (SparseCore.liftProg (Prog.op (.customCall (Pipeline.entry 0) ()) fun x => .ret x)) Φ
  iintro ⟨Hb, Hh, HO, Hl, ⟨Hg, Ht⟩, Hk⟩
  iapply ((K (F := F)).wp_liftProg (D (F := F)) 𝒱 (SparseCore.T d) Set.univ none _ Φ)
  iapply (Pipeline.RegionSeg.wp (pcfgs (F := F)) adm (pdats W) (none : HIx 1) Gen.cellOf_inj EP (defs₀ (F := F)) 𝒱₀
    (K (F := F)).L (K (F := F)).lev (seg W (ucRefs τ sig) (fun _ => BI.emp)) d none (fun _ h => nomatch h) (fun x => .ret x) Φ)
  isplitl [Hk]
  · iintro ⟨Hb, Hp⟩
    ihave Hq := (seg_post W d) $$ Hp
    icases Hq with ⟨Hh, HO, -, -⟩
    rw [wp_ret]
    imodintro
    iapply Hk
    isplitl [Hb]; · iexact Hb
    isplitl [Hh]; · iexact Hh
    iexact HO
  isplitl [Hb]; · iexact Hb
  isplitl [Hh HO]
  · iapply (seg_pre W d)
    isplitl [Hh]; · iexact Hh
    isplitl [HO]; · iexact HO
    isplitl <;> iempintro
  isplitl [Hl]; · iexact Hl
  isplitl [Hg]; · iexact Hg
  iexact Ht

/-- What a thread waits on is never above the bound after the one call. -/
theorem wBelow (thr : Thread nD τ) (W : Waits sig (HIx 1)) {b : ℕ} (hb : 7 ≤ b) : (K (F := F)).WBelow thr W b := by
  rintro ⟨g, ι⟩ _
  cases ι with
  | none => exact Nat.zero_le _
  | some q =>
    have h := (K (F := F)).lev_some_le (thr, g) q
    have hq : q.val = 0 := by omega
    show (K (F := F)).lev (thr, g) (some q) ≤ b
    omega

/-- The TensorCore's state after the call, opened at what it owes: nothing; and closed again at anything it waits on. -/
theorem tcSt_open (d : Dev nD) : ((K (F := F)).tcSt EH d 1 : sProp 𝕄)
    ⊢ iprop((∃ Wd, owes (SparseCore.T d) (0 : CellTallies nD τ sig (HIx 1)) Wd)
      ∗ ((∃ Wd, owes (SparseCore.T d) (0 : CellTallies nD τ sig (HIx 1)) Wd) -∗ (K (F := F)).tcSt EH d 1)) := by
  unfold SparseCore.Cfg.tcSt
  rw [show (K (F := F)).Otc d 1 = (0 : CellTallies nD τ sig (HIx 1)) from (K (F := F)).Otc_end d (le_refl 1)]
  iintro ⟨⟨%W, -, HO⟩, Hr⟩
  isplitl [HO]
  · iexists W; iexact HO
  iintro ⟨%W', HO⟩
  isplitl [HO]
  · iexists W'
    isplitr
    · ipureintro; exact wBelow _ _ (by decide)
    iexact HO
  iexact Hr

theorem call_step (d : Dev nD) (κ : GSem nD τ sig → ℕ) {Φ : PUnit → sProp 𝕄} :
    iprop((K (F := F)).ctx EH (P (tabV m) (idxV m) (outV m)) κ ∗ (K (F := F)).tcSt EH d 0 ∗ held (SparseCore.T d) (ucRefs τ sig) (V1 m d)
        ∗ (((K (F := F)).tcSt EH d 1 ∗ held (SparseCore.T d) (ucRefs τ sig) (V2 m d)) -∗ Φ ⟨⟩))
      ⊢ wp frame (wpE ((K (F := F)).defs (D (F := F))) 𝒱 (SparseCore.T d) none) Set.univ ((K (F := F)).run d 0) Φ := by
  rw [StableHlo.held_sub_split _ callRefs_sub (V1 m d), StableHlo.held_sub_split _ callRefs_sub (V2 m d), held_callRefs, held_callRefs,
    StableHlo.held_congr _ (V2_off m d), V2_v51, V2_keep m d main_v31 (by decide), V2_keep m d main_v12 (by decide)]
  iintro ⟨#Hctx, Hst, ⟨Hops, Hrest⟩, Hk⟩
  iapply ((K (F := F)).wp_run (D (F := F)) 𝒱 (EH := EH) (P := P (tabV m) (idxV m) (outV m)) κ d 0) $$ [Hst Hops Hrest Hk]
  isplitr; · iexact Hctx
  isplitl [Hst]; · iexact Hst
  isplitl [Hops]
  · rw [st_eq]; iexact Hops
  iintro ⟨Hst, Hdn⟩
  ihave Hdn' := (Entails.of_eq (dn_eq (tabV m) (idxV m) (outV m) d)) $$ Hdn
  iapply Hk
  isplitl [Hst]; · iexact Hst
  isplitl [Hdn']; · iexact Hdn'
  iexact Hrest

set_option backward.isDefEq.respectTransparency.types false in
/-- @main on device `d`'s TensorCore: its buffers from the launch's contents to `V5`. -/
theorem hmain [∀ e, Nonempty (Elt F e)] (κ : GSem nD τ sig → ℕ) (d : Dev nD) :
    iprop((K (F := F)).ctx EH (P (tabV m) (idxV m) (outV m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = held (SparseCore.T d) (ucRefs τ sig) (fun b => m (d, b)) from
    Pipeline.unscopedBufs_held d (fun b => m (d, b)), main_eq]
  iintro ⟨#Hctx, Hst, ⟨Hb, Hh, Hts, -⟩, HG⟩
  iapply (host_step d preOps preOps_sub preOps_fresh _ _)
  isplitl [Hb]; · iexact Hb
  isplitl [Hh]; · iexact Hh
  iintro ⟨Hb, Hh⟩
  rw [wp_bind]
  iapply (call_step m d κ)
  isplitr; · iexact Hctx
  isplitl [Hst]; · iexact Hst
  isplitl [Hh]; · iexact Hh
  iintro ⟨Hst, Hh⟩
  iapply (host_step d midOps midOps_sub midOps_fresh _ _)
  isplitl [Hb]; · iexact Hb
  isplitl [Hh]; · iexact Hh
  iintro ⟨Hb, Hh⟩
  ihave Hst' := (tcSt_open d) $$ Hst
  icases Hst' with ⟨HO, Hcl⟩
  rw [wp_bind]
  iapply (region_step d (V3 m))
  isplitl [Hb]; · iexact Hb
  isplitl [Hh]; · iexact Hh
  isplitl [HO]; · iexact HO
  isplitr; · iapply (SparseCore.Cfg.ctx_levAts κ); iexact Hctx
  isplitl [HG]; · iexact HG
  iintro ⟨Hb, Hh, HO⟩
  rw [show (seq endOps : Prog (TpuEff nD τ sig (Elt F) (SparseCore.Sig (ΛP (F := F)) 1) .tc) PUnit) = (seq endOps >>= fun x => .ret x) from (bind_pure _).symm]
  iapply (host_step d endOps endOps_sub endOps_fresh _ _)
  isplitl [Hb]; · iexact Hb
  isplitl [Hh]; · iexact Hh
  iintro ⟨Hb, Hh⟩
  rw [wp_ret]
  imodintro
  isplitl [HO Hcl]
  · iapply Hcl; iexact HO
  isplitl [Hh]; · iexact Hh
  isplitl [Hb] <;> iassumption

/-! ## The final contents -/

def fq (d : Dev nD) (s' : Phys nD τ sig (Elt F)) : Prop :=
  ∀ r : Ref sig .tc, r.isScoped = false → s'.mem.mem ((SparseCore.T d : Thread nD τ).loc r) = V5 m d (Proc.devRef .tc r)

theorem hfin (d : Dev nD) (s' : Phys nD τ sig (Elt F)) : iprop(FIN m d ∗ SI s') ⊢ (⌜fq m d s'⌝ : sProp 𝕄) := by
  show iprop((bigSep (ucRefs τ sig) fun b : DevRef τ sig => (((d, b) : Loc nD τ sig) ↦{fullShare} V5 m d b)) ∗ SI s') ⊢ _
  iintro ⟨H, HSI⟩
  ihave %h := (SI_pointsTo_bufs_agree (qs := fun _ => fullShare) (ucRefs τ sig)) $$ [HSI H]
  · isplitl [HSI]; · iexact HSI
    iexact H
  ipureintro
  exact fun r hr => h _ (ref_mem r hr)

/-- A buffer no step writes holds at the end what it held at launch. -/
theorem V5_arg (d : Dev nD) (r : Ref sig .tc) (h1 : r ∉ preOps_W := by decide) (h2 : r ≠ main_v51 := by decide) (h3 : r ∉ midOps_W := by decide)
    (h4 : ∀ w, r ≠ Pipeline.arrRef cfg1.spec w := by decide) (h5 : r ∉ endOps_W := by decide) :
    V5 m d (Proc.devRef .tc r) = m ((SparseCore.T d : Thread nD τ).loc r) := by
  unfold V5 V4
  rw [endOps_keep _ r h5]
  refine (Pipeline.afterRegion_of_not_arr (pdats (V3 m) 0 d) (V3 m d) h4).trans ?_
  unfold V3
  rw [midOps_keep _ r h3, V2_keep m d r h2]
  unfold V1
  exact preOps_keep _ r h1

theorem V4_v61 (d : Dev nD) : V4 m d (Proc.devRef .tc main_v61) = result (V3 m) d :=
  (Pipeline.afterRegion_arr (pdats (V3 m) 0 d) (V3 m d) Gen.launch1.win.arr_inj 11).trans (result_arr (V3 m) d)

theorem V5_out (d : Dev nD) : V5 m d (Proc.devRef .tc main_v62) = outOf m d := by
  unfold V5 outOf
  rw [end_v62]
  exact congrArg (fun x : FVec F S4096x1 .f32 => shapeCast S4096 x shapeCasts_S4096x1_S4096) (V4_v61 m d)

/-- The run: the result, the arguments, the counters. -/
theorem run_main [∀ e, Nonempty (Elt F e)] (hiv : ∀ d j, (idxV m d j).toNat < 1313000) :
    θ_run (Cert.KernelIdeal.defs (F := F)) (Cert.KernelIdeal.threads (F := F)) ⟨m, fun _ => 0, ρ⟩
      (fun r => (∀ (d : Dev nD) (b : Ref sig .tc), b.isScoped = false → r.2.mem ((SparseCore.T d : Thread nD τ).loc b) = V5 m d (Proc.devRef .tc b)) ∧ r.2.sem = fun _ => 0) :=
  SparseCore.Cfg.θ_run_sc_quiescent (K := K (F := F)) (D := D (F := F)) (𝒱 := 𝒱) (EH := EH) (P := P (tabV m) (idxV m) (outV m)) (A := ∅) scFacts v₀
    (fun q hq => match q with | 0 => nomatch hq)
    (fun q _ => match q with | 0 => tileObl (tabV m) (idxV m) (outV m) hiv)
    (fun q _ => match q with | 0 => SparseCore.Cfg.VecSplit.of_plain (vecSplit (tabV m) (idxV m) (outV m)))
    m ρ main (fun d => G (F := F) d) (FIN m) (u₀ (F := F)) (sep_elim_left.trans (hu₀ m)) (hmain m ρ) (fq m) (hfin m) _ (fun _ h hz => ⟨h, hz⟩)

/-- The result and the arguments at the end, one by one, with every counter at zero. -/
theorem run_args [∀ e, Nonempty (Elt F e)] (hiv : ∀ d j, (idxV m d j).toNat < 1313000) :
    θ_run (Cert.KernelIdeal.defs (F := F)) (Cert.KernelIdeal.threads (F := F)) ⟨m, fun _ => 0, ρ⟩
      (fun r => (∀ d : Dev nD, r.2.mem ((d.tc : Thread nD τ).loc main_v62) = outOf m d
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5)
        ∧ r.2.mem ((d.tc : Thread nD τ).loc main_arg6) = m ((d.tc : Thread nD τ).loc main_arg6)
        ∧ r.2.mem ((d.tc : Thread nD τ).loc main_arg7) = m ((d.tc : Thread nD τ).loc main_arg7)
        ∧ r.2.mem ((d.tc : Thread nD τ).loc main_arg8) = m ((d.tc : Thread nD τ).loc main_arg8)
        ∧ r.2.mem ((d.tc : Thread nD τ).loc main_arg9) = m ((d.tc : Thread nD τ).loc main_arg9)
        ∧ r.2.mem ((d.tc : Thread nD τ).loc main_arg10) = m ((d.tc : Thread nD τ).loc main_arg10)
        ∧ r.2.mem ((d.tc : Thread nD τ).loc main_arg11) = m ((d.tc : Thread nD τ).loc main_arg11)
        ∧ r.2.mem ((d.tc : Thread nD τ).loc main_arg12) = m ((d.tc : Thread nD τ).loc main_arg12)
        ∧ r.2.mem ((d.tc : Thread nD τ).loc main_arg13) = m ((d.tc : Thread nD τ).loc main_arg13))
        ∧ r.2.sem = fun _ => 0) :=
  (θ_run Cert.KernelIdeal.defs _ _).mono (fun r h => ⟨fun d => ⟨(h.1 d main_v62 rfl).trans (V5_out m d),
    (h.1 d main_arg0 rfl).trans (V5_arg m d main_arg0), (h.1 d main_arg1 rfl).trans (V5_arg m d main_arg1),
    (h.1 d main_arg2 rfl).trans (V5_arg m d main_arg2), (h.1 d main_arg3 rfl).trans (V5_arg m d main_arg3),
    (h.1 d main_arg4 rfl).trans (V5_arg m d main_arg4), (h.1 d main_arg5 rfl).trans (V5_arg m d main_arg5),
    (h.1 d main_arg6 rfl).trans (V5_arg m d main_arg6), (h.1 d main_arg7 rfl).trans (V5_arg m d main_arg7),
    (h.1 d main_arg8 rfl).trans (V5_arg m d main_arg8), (h.1 d main_arg9 rfl).trans (V5_arg m d main_arg9),
    (h.1 d main_arg10 rfl).trans (V5_arg m d main_arg10), (h.1 d main_arg11 rfl).trans (V5_arg m d main_arg11),
    (h.1 d main_arg12 rfl).trans (V5_arg m d main_arg12), (h.1 d main_arg13 rfl).trans (V5_arg m d main_arg13)⟩, h.2⟩) (run_main m ρ hiv)

/-! ## The rows the call gathers are rows of the table -/

theorem idx_lt (hx : ∀ (d : Dev nD) (i : S4096x26.Idx), ((m ((d.tc : Thread nD τ).loc main_arg0) : S4096x26.Idx → BitVec 32) i).toNat < 1000) :
    ∀ d j, (idxV m d j).toNat < 1313000 := by
  intro d j
  have e : (idxV m d : S106496.Idx → BitVec 32) = rowsOf (m ((d.tc : Thread nD τ).loc main_arg0)) := by
    unfold idxV V1; exact pre_v31 _
  rw [show idxV m d j = rowsOf (m ((d.tc : Thread nD τ).loc main_arg0)) j from congrFun e j]
  exact rows_lt _ (hx d) j

end Cert.KernelIdeal.Run

end
-- ==== Proof.Frames.lean ====
/-
  The frames: from arguments whose category numbers lie in range, each program ends with its arguments unchanged and every
  semaphore at zero.
-/
module

public import proofs.«01_k».proof.Proof.Main
public import proofs.«01_k».proof.Proof.Ideal.Main
public import proofs.«01_k».proof.Proof.Gen.ReferenceIdeal.Run
public import proofs.«01_k».proof.Defs
public import proofs.«01_k».proof.Proof.Gen.Pre_in_range

@[expose] public section

noncomputable section

namespace Cert.Proof

open Idealize.ShloMosaic Idealize.SL.Sem

/-! ## What the precondition says of the category numbers -/

theorem small_of_range {F : FTy → Type} [FloatOps F] {x0 : IVec Cert.Pre_in_range.S4096x26 32} {x1 x2 x3 x4 x5 x6 x7 x8 x9 x10 x11 x12 x13}
    (h : Cert.Pre_in_range.fn (F := F) x0 x1 x2 x3 x4 x5 x6 x7 x8 x9 x10 x11 x12 x13 = fun _ => 1#1) (i : Cert.Pre_in_range.S4096x26.Idx) :
    (x0 i).toNat < 1000 := by
  have e := congrFun h i
  idx_vars i
  pointwise [Cert.Pre_in_range.fn] at e
  exact Cert.Kernel.Run.lt_of_signed _ e

/-! ## The frames -/

theorem frame_kernel : Cert.quiescent_Kernel := by
  intro m ρ h
  exact (θ_run Cert.Kernel.defs _ _).mono (fun _ r => ⟨fun c => (r.1 c).2, r.2⟩)
    (Cert.Kernel.Run.run_args m ρ (Cert.Kernel.Run.idx_lt m fun d i => small_of_range (h d) i))

theorem frame_ideal : Cert.quiescent_KernelIdeal := by
  intro m ρ h
  exact (θ_run Cert.KernelIdeal.defs _ _).mono (fun _ r => ⟨fun c => (r.1 c).2, r.2⟩)
    (Cert.KernelIdeal.Run.run_args m ρ (Cert.KernelIdeal.Run.idx_lt m fun d i => small_of_range (h d) i))

/-- The reference declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

end Cert.Proof

end
-- ==== Proof.Finite.lean ====
/-
  The frames once more under the precondition of the algebraic claim, which also bounds the shift and the second layer's weights.
-/
module

public import proofs.«01_k».proof.Proof.Frames
public import proofs.«01_k».proof.Proof.Gen.Pre_in_range_and_finite

@[expose] public section

noncomputable section

namespace Cert.Proof

open Idealize.ShloMosaic Idealize.SL.Sem

theorem small_of_finite {F : FTy → Type} [FloatOps F] {x0 : IVec Cert.Pre_in_range_and_finite.S4096x26 32} {x1 x2 x3 x4 x5 x6 x7 x8 x9 x10 x11 x12 x13}
    (h : (Cert.Pre_in_range_and_finite.fn (F := F) x0 x1 x2 x3 x4 x5 x6 x7 x8 x9 x10 x11 x12 x13).1 = fun _ => 1#1)
    (i : Cert.Pre_in_range_and_finite.S4096x26.Idx) : (x0 i).toNat < 1000 := by
  have e := congrFun h i
  idx_vars i
  pointwise [Cert.Pre_in_range_and_finite.fn] at e
  exact Cert.Kernel.Run.lt_of_signed _ e

theorem frame_ideal_finite : Cert.quiescent_KernelIdeal_pre_in_range_and_finite := by
  intro m ρ h
  exact (θ_run Cert.KernelIdeal.defs _ _).mono (fun _ r => ⟨fun c => (r.1 c).2, r.2⟩)
    (Cert.KernelIdeal.Run.run_args m ρ (Cert.KernelIdeal.Run.idx_lt m fun d i => small_of_finite (h d).1 i))

theorem frame_reference_finite : Cert.quiescent_ReferenceIdeal_pre_in_range_and_finite := by
  intro m ρ _
  exact frame_reference m ρ trivial

end Cert.Proof

end
-- ==== Proof.Value.Block.lean ====
/-
  The TensorCore kernel's body over the extended reals, read at one row of its block: four sums of products with biases and rectifiers
  between them. The first is the numeric features' sum followed by one sum for every field.
-/
module

public import proofs.«01_k».proof.Proof.Ideal.Mlp
public import Idealize.ShloMosaic.Lib.Pointwise

@[expose] public section

noncomputable section

namespace Cert.KernelIdeal.Run

open Cert.KernelIdeal Cert.KernelIdeal.Gen

open Idealize.ShloMosaic

/-! ## One field's part of the first layer -/

theorem ld_slab {F : FTy → Type} [FloatOps F] (x : Vec F S26x512x128 .f32) (n : ℕ) (h : n < 26) (a : Fin 1) (r : Fin 512) (l : Fin 128) :
    View.ld x (slab n h) (ix3 a r l) = x (ix3 ⟨n, h⟩ r l) := by
  refine congrArg x (funext fun b => Fin.ext ?_)
  match b with
  | ⟨0, _⟩ => show n + 1 * a.val = n; omega
  | ⟨1, _⟩ => show 0 + 1 * r.val = r.val; omega
  | ⟨2, _⟩ => show 0 + 1 * l.val = l.val; omega

theorem ld_wslab {F : FTy → Type} [FloatOps F] (x : Vec F S26x128x512 .bf16) (n : ℕ) (h : n < 26) (a : Fin 1) (l : Fin 128) (r : Fin 512) :
    View.ld x (wslab n h) (ix3 a l r) = x (ix3 ⟨n, h⟩ l r) := by
  refine congrArg x (funext fun b => Fin.ext ?_)
  match b with
  | ⟨0, _⟩ => show n + 1 * a.val = n; omega
  | ⟨1, _⟩ => show 0 + 1 * l.val = l.val; omega
  | ⟨2, _⟩ => show 0 + 1 * r.val = r.val; omega

/-- The product of two slabs at an entry. -/
theorem slab_product (y0 : FVec Ideal S1x512x128 .f32) (y2 : FVec Ideal S1x128x512 .bf16) (r q : Fin 512) :
    matmul dot_S512x128_S128x512_S512x512_1_0_0_1_n_n none
      (truncf .bf16 (shapeCast S512x128 y0 shapeCasts_S1x512x128_S512x128) bitsLt_bf16_f32)
      (shapeCast S128x512 y2 shapeCasts_S1x128x512_S128x512)
      (constant S512x512 .f32 0x00000000#32) (ix2 r q) = ∑ l : Fin 128, y0 (ix3 0 r l) * y2 (ix3 0 l q) := by
  pointwise

theorem term_apply (x0 : Vec Ideal S26x512x128 .f32) (x2 : Vec Ideal S26x128x512 .bf16) (n : ℕ) (h : n < 26) (r q : Fin 512) :
    term x0 x2 n h (ix2 r q) = ∑ l : Fin 128, x0 (ix3 ⟨n, h⟩ r l) * x2 (ix3 ⟨n, h⟩ l q) := by
  unfold term
  refine (slab_product (View.ld x0 (slab n h)) (View.ld x2 (wslab n h)) r q).trans ?_
  exact Finset.sum_congr rfl fun l _ => congrArg₂ (fun a b : EReal => a * b) (ld_slab x0 n h 0 r l) (ld_wslab x2 n h 0 l q)

/-! ## The first layer's sum -/

theorem upTo_apply (x0 : Vec Ideal S26x512x128 .f32) (x1 : Vec Ideal S512x13 .bf16) (x2 : Vec Ideal S26x128x512 .bf16) (x3 : Vec Ideal S13x512 .bf16)
    (r q : Fin 512) : (n : ℕ) → (h : n ≤ 26) →
    upTo x0 x1 x2 x3 n h (ix2 r q) = (∑ k : Fin 13, x1 (ix2 r k) * x3 (ix2 k q))
      + ∑ f : Fin n, ∑ l : Fin 128, x0 (ix3 ⟨f.val, lt_of_lt_of_le f.isLt h⟩ r l) * x2 (ix3 ⟨f.val, lt_of_lt_of_le f.isLt h⟩ l q)
  | 0, h => by
    simp only [Finset.univ_eq_empty, Finset.sum_empty, add_zero]
    pointwise [upTo]
  | n + 1, h => by
    rw [Fin.sum_univ_castSucc (n := n), ← add_assoc]
    exact congrArg₂ (fun a b : EReal => a + b) (upTo_apply x0 x1 x2 x3 r q n (Nat.le_of_succ_le h)) (term_apply x0 x2 n h r q)

/-! ## The later layers -/

/-- From the second layer's rectified row: the two layers after it. -/
def rest (h2 : Fin 256 → EReal) (W3 : Fin 256 → Fin 128 → EReal) (b3 : Fin 128 → EReal) (W4 : Fin 128 → EReal) (b4 : EReal) : EReal :=
  (∑ j : Fin 128, max ((∑ i : Fin 256, h2 i * W3 i j) + b3 j) 0 * W4 j) + b4

theorem tail_apply (a : FVec Ideal S512x512 .f32) (x4 : Vec Ideal S1x512 .f32) (x5 : Vec Ideal S512x256 .bf16) (x6 : Vec Ideal S1x256 .f32)
    (x7 : Vec Ideal S256x128 .bf16) (x8 : Vec Ideal S1x128 .f32) (x9 : Vec Ideal S128x1 .bf16) (x10 : Vec Ideal S1x1 .f32) (r : Fin 512) :
    tail a x4 x5 x6 x7 x8 x9 x10 (ix2 r 0)
      = rest (fun i => max ((∑ k : Fin 512, max (a (ix2 r k) + x4 (ix2 0 k)) 0 * x5 (ix2 k i)) + x6 (ix2 0 i)) 0)
          (fun i j => x7 (ix2 i j)) (fun j => x8 (ix2 0 j)) (fun j => x9 (ix2 j 0)) (x10 (ix2 0 0)) := by
  pointwise [tail, rest]

/-- What the body stores in row `r` of its block. -/
theorem mlp_apply (x0 : Vec Ideal S26x512x128 .f32) (x1 : Vec Ideal S512x13 .bf16) (x2 : Vec Ideal S26x128x512 .bf16) (x3 : Vec Ideal S13x512 .bf16)
    (x4 : Vec Ideal S1x512 .f32) (x5 : Vec Ideal S512x256 .bf16) (x6 : Vec Ideal S1x256 .f32)
    (x7 : Vec Ideal S256x128 .bf16) (x8 : Vec Ideal S1x128 .f32) (x9 : Vec Ideal S128x1 .bf16) (x10 : Vec Ideal S1x1 .f32) (r : Fin 512) :
    mlp x0 x1 x2 x3 x4 x5 x6 x7 x8 x9 x10 (ix2 r 0)
      = rest (fun i => max ((∑ k : Fin 512, max (((∑ n : Fin 13, x1 (ix2 r n) * x3 (ix2 n k))
            + ∑ f : Fin 26, ∑ l : Fin 128, x0 (ix3 f r l) * x2 (ix3 f l k)) + x4 (ix2 0 k)) 0 * x5 (ix2 k i)) + x6 (ix2 0 i)) 0)
          (fun i j => x7 (ix2 i j)) (fun j => x8 (ix2 0 j)) (fun j => x9 (ix2 j 0)) (x10 (ix2 0 0)) := by
  unfold mlp
  refine (tail_apply _ x4 x5 x6 x7 x8 x9 x10 r).trans ?_
  simp only [upTo_apply]

end Cert.KernelIdeal.Run

end
-- ==== Proof.Value.Staged.lean ====
/-
  What the pipeline stages at each grid point: rows `512 t` to `512 t + 511` of the gathered features and of the numeric features, and
  the weights and biases whole.
-/
module

public import proofs.«01_k».proof.Proof.Ideal.Region
public import Idealize.ShloMosaic.Lib.Pointwise

@[expose] public section

noncomputable section

namespace Cert.KernelIdeal.Run

open Cert.KernelIdeal Cert.KernelIdeal.Gen

open Idealize.ShloMosaic Idealize.ShloMosaic.TcCoe

variable {F : FTy → Type} [FloatOps F]
variable (V : (c : Dev nD) → Valuation τ sig (Elt F)) (c : Dev nD) (t : Fin cfg1.N)

/-- Row `r` of point `t`'s block among all rows. -/
def rowIn (r : Fin 512) : Fin 4096 := ⟨t.val * 512 + r.val, by
  have h : t.val < 8 := lt_of_lt_of_eq t.isLt N_1
  omega⟩

theorem iblk_0 (f : Fin 26) (r : Fin 512) (l : Fin 128) :
    (iblk V c 0 t : S26x512x128.Idx → Elt F .f32) (ix3 f r l) = (V c (Proc.devRef .tc main_v51) : S26x4096x128.Idx → Elt F .f32) (ix3 f (rowIn t r) l) := by
  obtain ⟨⟨h0, h1⟩, h2⟩ := index_0 t
  refine congrArg (V c (Proc.devRef .tc main_v51) : S26x4096x128.Idx → Elt F .f32) (funext fun a => Fin.ext ?_)
  match a with
  | ⟨0, _⟩ => show (cfg1.win 0).index t 0 * 26 + 1 * f.val = f.val; omega
  | ⟨1, _⟩ => show (cfg1.win 0).index t 1 * 512 + 1 * r.val = t.val * 512 + r.val; omega
  | ⟨2, _⟩ => show (cfg1.win 0).index t 2 * 128 + 1 * l.val = l.val; omega

theorem iblk_1 (r : Fin 512) (k : Fin 13) :
    (iblk V c 1 t : S512x13.Idx → Elt F .bf16) (ix2 r k) = (V c (Proc.devRef .tc main_v52) : S4096x13.Idx → Elt F .bf16) (ix2 (rowIn t r) k) := by
  obtain ⟨h0, h1⟩ := index_1 t
  refine congrArg (V c (Proc.devRef .tc main_v52) : S4096x13.Idx → Elt F .bf16) (funext fun a => Fin.ext ?_)
  match a with
  | ⟨0, _⟩ => show (cfg1.win 1).index t 0 * 512 + 1 * r.val = t.val * 512 + r.val; omega
  | ⟨1, _⟩ => show (cfg1.win 1).index t 1 * 13 + 1 * k.val = k.val; omega

/-- Every other input's block is the whole array: it starts at 0 on every axis. -/
theorem index_whole (w : Fin cfg1.W) (h : 2 ≤ w.val ∧ w.val ≤ 10) (a) : (cfg1.win w).index t a = 0 := by
  obtain ⟨w, hw⟩ := w
  have hw' : w = 2 ∨ w = 3 ∨ w = 4 ∨ w = 5 ∨ w = 6 ∨ w = 7 ∨ w = 8 ∨ w = 9 ∨ w = 10 := by
    have := h.1; have := h.2; simp only at *; omega
  rcases hw' with rfl | rfl | rfl | rfl | rfl | rfl | rfl | rfl | rfl <;>
    · clear h; revert a; rcases fin_N1 t with rfl | rfl | rfl | rfl | rfl | rfl | rfl | rfl <;> decide +revert

theorem at_zero {n b x : ℕ} (h : n = 0) : n * b + 1 * x = x := by rw [h]; omega

theorem iblk_2 : (iblk V c 2 t : S26x128x512.Idx → Elt F .bf16) = V c (Proc.devRef .tc main_v47) :=
  funext fun _ => congrArg (V c (Proc.devRef .tc main_v47) : S26x128x512.Idx → Elt F .bf16) (funext fun a => Fin.ext (at_zero (index_whole t 2 (by decide) a)))
theorem iblk_3 : (iblk V c 3 t : S13x512.Idx → Elt F .bf16) = V c (Proc.devRef .tc main_v50) :=
  funext fun _ => congrArg (V c (Proc.devRef .tc main_v50) : S13x512.Idx → Elt F .bf16) (funext fun a => Fin.ext (at_zero (index_whole t 3 (by decide) a)))
theorem iblk_4 : (iblk V c 4 t : S1x512.Idx → Elt F .f32) = V c (Proc.devRef .tc main_v53) :=
  funext fun _ => congrArg (V c (Proc.devRef .tc main_v53) : S1x512.Idx → Elt F .f32) (funext fun a => Fin.ext (at_zero (index_whole t 4 (by decide) a)))
theorem iblk_5 : (iblk V c 5 t : S512x256.Idx → Elt F .bf16) = V c (Proc.devRef .tc main_v40) :=
  funext fun _ => congrArg (V c (Proc.devRef .tc main_v40) : S512x256.Idx → Elt F .bf16) (funext fun a => Fin.ext (at_zero (index_whole t 5 (by decide) a)))
theorem iblk_6 : (iblk V c 6 t : S1x256.Idx → Elt F .f32) = V c (Proc.devRef .tc main_v54) :=
  funext fun _ => congrArg (V c (Proc.devRef .tc main_v54) : S1x256.Idx → Elt F .f32) (funext fun a => Fin.ext (at_zero (index_whole t 6 (by decide) a)))
theorem iblk_7 : (iblk V c 7 t : S256x128.Idx → Elt F .bf16) = V c (Proc.devRef .tc main_v56) :=
  funext fun _ => congrArg (V c (Proc.devRef .tc main_v56) : S256x128.Idx → Elt F .bf16) (funext fun a => Fin.ext (at_zero (index_whole t 7 (by decide) a)))
theorem iblk_8 : (iblk V c 8 t : S1x128.Idx → Elt F .f32) = V c (Proc.devRef .tc main_v57) :=
  funext fun _ => congrArg (V c (Proc.devRef .tc main_v57) : S1x128.Idx → Elt F .f32) (funext fun a => Fin.ext (at_zero (index_whole t 8 (by decide) a)))
theorem iblk_9 : (iblk V c 9 t : S128x1.Idx → Elt F .bf16) = V c (Proc.devRef .tc main_v59) :=
  funext fun _ => congrArg (V c (Proc.devRef .tc main_v59) : S128x1.Idx → Elt F .bf16) (funext fun a => Fin.ext (at_zero (index_whole t 9 (by decide) a)))
theorem iblk_10 : (iblk V c 10 t : S1x1.Idx → Elt F .f32) = V c (Proc.devRef .tc main_v60) :=
  funext fun _ => congrArg (V c (Proc.devRef .tc main_v60) : S1x1.Idx → Elt F .f32) (funext fun a => Fin.ext (at_zero (index_whole t 10 (by decide) a)))

end Cert.KernelIdeal.Run

end
-- ==== Proof.Value.Rows.lean ====
/-
  The gathered features over the extended reals: row `(f, b)` of the SparseCore call's output holds field `f`'s embedding of sample `b`
  in its first fifty lanes and zero in the rest.
-/
module

public import proofs.«01_k».proof.Proof.Ideal.Rows
public import proofs.«01_k».proof.Proof.Ideal.Tile

@[expose] public section

noncomputable section

namespace Cert.KernelIdeal.Run

open Cert.KernelIdeal Cert.KernelIdeal.Gen

open Idealize.ShloMosaic

/-- Entry `l` of field `f`'s embedding of sample `b`: the first thirteen fields look their category up in the small tables, the others
    in the large ones. -/
def embed (x0 : S4096x26.Idx → BitVec 32) (x2 : S13x1000x50.Idx → EReal) (x3 : S13x100000x50.Idx → EReal)
    (b : Fin 4096) (f : Fin 26) (l : Fin 50) : EReal :=
  if h : f.val < 13 then x2 (ix3 ⟨f.val, h⟩ ⟨(x0 (ix2 b f)).toNat % 1000, Nat.mod_lt _ (by decide)⟩ l)
  else x3 (ix3 ⟨f.val - 13, by have := f.isLt; omega⟩ ⟨(x0 (ix2 b f)).toNat % 100000, Nat.mod_lt _ (by decide)⟩ l)

/-! ## The table -/

theorem unit_apply (x1 : FVec Ideal S4096x13 .f32) : unit x1 ix0 = 1 := by
  pointwise [unit]
  rw [zero_mul, add_zero]

/-- The integer zero that fills the padding, as a float. -/
theorem fill_zero (φ : FTy) : FloatOps.sitofp (F := Ideal) φ (0#32) = (0 : EReal) := by
  show (((0#32 : BitVec 32).toInt : ℝ) : EReal) = 0
  simp

theorem stackTables_apply (a : FVec Ideal S13000x128 .f32) (b : FVec Ideal S1300000x128 .f32) (r : Fin 1313000) (l : Fin 128) :
    stackTables (F := Ideal) a b (ix2 r l) = if h : r.val < 13000 then a (ix2 ⟨r.val, h⟩ l) else b (ix2 ⟨r.val - 13000, by omega⟩ l) := by
  pointwise [stackTables]

theorem smallTables_apply (x1 : FVec Ideal S4096x13 .f32) (x2 : FVec Ideal S13x1000x50 .f32) (r : Fin 13000) (l : Fin 128) :
    smallTables x1 x2 (ix2 r l)
      = if h : l.val < 50 then x2 (ix3 ⟨r.val / 1000, by omega⟩ ⟨r.val % 1000, by omega⟩ ⟨l.val, h⟩) else 0 := by
  pointwise [smallTables]
  have h1 : r.val / 1000 < 13 := by omega
  have h2 : r.val % 1000 < 1000 := by omega
  simp only [h1, h2, true_and, unit_apply, mul_one, fill_zero]

theorem largeTables_apply (x1 : FVec Ideal S4096x13 .f32) (x3 : FVec Ideal S13x100000x50 .f32) (r : Fin 1300000) (l : Fin 128) :
    largeTables x1 x3 (ix2 r l)
      = if h : l.val < 50 then x3 (ix3 ⟨r.val / 100000, by omega⟩ ⟨r.val % 100000, by omega⟩ ⟨l.val, h⟩) else 0 := by
  pointwise [largeTables]
  have h1 : r.val / 100000 < 13 := by omega
  have h2 : r.val % 100000 < 100000 := by omega
  simp only [h1, h2, true_and, unit_apply, mul_one, fill_zero]

/-! ## The gathered rows -/

theorem gath_apply (x0 : S4096x26.Idx → BitVec 32) (x1 : FVec Ideal S4096x13 .f32) (x2 : FVec Ideal S13x1000x50 .f32)
    (x3 : FVec Ideal S13x100000x50 .f32) (hx : ∀ i, (x0 i).toNat < 1000) (f : Fin 26) (b : Fin 4096) (l : Fin 128) :
    gath (F := Ideal) (tableOf x1 x2 x3) (rowsOf x0) (ix3 f b l) = if h : l.val < 50 then embed x0 x2 x3 b f ⟨l.val, h⟩ else 0 := by
  have hw := hx (ix2 b f)
  have hf := f.isLt
  have hbase : baseOf f.val ≤ 1213000 := by unfold baseOf; split <;> omega
  have hr : (rowsOf x0 (posAt (ix3 f b l))).toNat = baseOf f.val + (x0 (ix2 b f)).toNat := by
    rw [rowsOf_apply x0 (posAt (ix3 f b l)) f b rfl, row_toNat _ hw]
  have e : rowAt (rowsOf x0 (posAt (ix3 f b l))) l = ix2 (⟨baseOf f.val + (x0 (ix2 b f)).toNat, by omega⟩ : Fin 1313000) l := by
    funext a
    match a with
    | ⟨0, _⟩ =>
      refine Fin.ext ?_
      show (rowsOf x0 (posAt (ix3 f b l))).toNat % 1313000 = _
      rw [hr]
      exact Nat.mod_eq_of_lt (by omega)
    | ⟨1, _⟩ => rfl
  show tableOf x1 x2 x3 (rowAt (rowsOf x0 (posAt (ix3 f b l))) l) = _
  rw [e]
  unfold tableOf embed
  rw [stackTables_apply]
  by_cases h13 : f.val < 13
  · have hb : baseOf f.val = f.val * 1000 := if_pos h13
    rw [dif_pos (show baseOf f.val + (x0 (ix2 b f)).toNat < 13000 by omega), smallTables_apply]
    simp only [h13, ↓reduceDIte]
    split
    · exact congrArg₂ (fun p q => x2 (ix3 p q _)) (Fin.ext (by show (baseOf f.val + _) / 1000 = f.val; omega))
        (Fin.ext (by show (baseOf f.val + _) % 1000 = (x0 (ix2 b f)).toNat % 1000; omega))
    · rfl
  · have hb : baseOf f.val = 13000 + (f.val - 13) * 100000 := if_neg h13
    rw [dif_neg (show ¬ baseOf f.val + (x0 (ix2 b f)).toNat < 13000 by omega), largeTables_apply]
    simp only [h13, ↓reduceDIte]
    split
    · exact congrArg₂ (fun p q => x3 (ix3 p q _)) (Fin.ext (by show (baseOf f.val + _ - 13000) / 100000 = f.val - 13; omega))
        (Fin.ext (by show (baseOf f.val + _ - 13000) % 100000 = (x0 (ix2 b f)).toNat % 100000; omega))
    · rfl

/-! ## The weights and the bias -/

theorem w1pOf_apply (x4 : FVec Ideal S512x1313 .f32) (f : Fin 26) (l : Fin 128) (q : Fin 512) :
    w1pOf x4 (ix3 f l q) = if h : l.val < 50 then x4 (ix2 q ⟨f.val * 50 + l.val, by omega⟩) else 0 := by
  pointwise [w1pOf, fill_zero]

theorem w1nOf_apply (x4 : FVec Ideal S512x1313 .f32) (k : Fin 13) (q : Fin 512) :
    w1nOf x4 (ix2 k q) = x4 (ix2 q ⟨1300 + k.val, by omega⟩) := by
  pointwise [w1nOf]

theorem w2Of_apply (x6 : FVec Ideal S512 .f32) (x8 : FVec Ideal S256x512 .f32) (k : Fin 512) (i : Fin 256) :
    w2Of x6 x8 (ix2 k i) = x8 (ix2 i k) * Ideal.div (x6 (ix1 k)) (Ideal.sqrt (Ideal.ofBits .f32 0x3F800054#32)) := by
  pointwise [w2Of]
  rfl

theorem b2Of_apply (x7 : FVec Ideal S512 .f32) (x8 : FVec Ideal S256x512 .f32) (x9 : FVec Ideal S256 .f32) (i : Fin 256) :
    b2Of x7 x8 x9 (ix1 i) = x9 (ix1 i) + ∑ k : Fin 512, x8 (ix2 i k) * x7 (ix1 k) := by
  pointwise [b2Of]

end Cert.KernelIdeal.Run

end
-- ==== Proof.Value.Kernel.lean ====
/-
  The kernel's result over the extended reals, sample by sample, as a function of the arguments.
-/
module

public import proofs.«01_k».proof.Proof.Ideal.Main
public import proofs.«01_k».proof.Proof.Value.Block
public import proofs.«01_k».proof.Proof.Value.Staged
public import proofs.«01_k».proof.Proof.Value.Rows

@[expose] public section

noncomputable section

namespace Cert.KernelIdeal.Run

open Cert.KernelIdeal Cert.KernelIdeal.Gen

open Idealize.ShloMosaic Idealize.ShloMosaic.TcCoe

variable (m : (ℓ : Loc nD τ sig) → Buf (Elt Ideal) ℓ) (d : Dev nD)

/-! ## The arguments -/

abbrev a0 : S4096x26.Idx → BitVec 32 := m ((d.tc : Thread nD τ).loc main_arg0)
abbrev a1 : S4096x13.Idx → EReal := m ((d.tc : Thread nD τ).loc main_arg1)
abbrev a2 : S13x1000x50.Idx → EReal := m ((d.tc : Thread nD τ).loc main_arg2)
abbrev a3 : S13x100000x50.Idx → EReal := m ((d.tc : Thread nD τ).loc main_arg3)
abbrev a4 : S512x1313.Idx → EReal := m ((d.tc : Thread nD τ).loc main_arg4)
abbrev a5 : S512.Idx → EReal := m ((d.tc : Thread nD τ).loc main_arg5)
abbrev a6 : S512.Idx → EReal := m ((d.tc : Thread nD τ).loc main_arg6)
abbrev a7 : S512.Idx → EReal := m ((d.tc : Thread nD τ).loc main_arg7)
abbrev a8 : S256x512.Idx → EReal := m ((d.tc : Thread nD τ).loc main_arg8)
abbrev a9 : S256.Idx → EReal := m ((d.tc : Thread nD τ).loc main_arg9)
abbrev a10 : S128x256.Idx → EReal := m ((d.tc : Thread nD τ).loc main_arg10)
abbrev a11 : S128.Idx → EReal := m ((d.tc : Thread nD τ).loc main_arg11)
abbrev a12 : S1x128.Idx → EReal := m ((d.tc : Thread nD τ).loc main_arg12)
abbrev a13 : S1.Idx → EReal := m ((d.tc : Thread nD τ).loc main_arg13)

/-! ## The arrays the pipeline reads -/

theorem V2_arg (r : Ref sig .tc) (h1 : r ∉ preOps_W) (h2 : r ≠ main_v51) : V2 m d (Proc.devRef .tc r) = m ((d.tc : Thread nD τ).loc r) :=
  (V2_keep m d r h2).trans (preOps_keep _ r h1)

theorem V3_keep (r : Ref sig .tc) (h1 : r ∉ midOps_W) (h2 : r ≠ main_v51) : V3 m d (Proc.devRef .tc r) = V1 m d (Proc.devRef .tc r) :=
  (midOps_keep _ r h1).trans (V2_keep m d r h2)

theorem V3_v51 : (V3 m d (Proc.devRef .tc main_v51) : S26x4096x128.Idx → EReal)
    = gath (F := Ideal) (tableOf (F := Ideal) (a1 m d) (a2 m d) (a3 m d)) (rowsOf (a0 m d)) := by
  refine (midOps_keep _ main_v51 (by decide)).trans ((V2_v51 m d).trans ?_)
  exact congrArg₂ (fun t i => gath (F := Ideal) t i) (pre_v12 _) (pre_v31 _)
theorem V3_v52 : (V3 m d (Proc.devRef .tc main_v52) : S4096x13.Idx → EReal) = a1 m d :=
  (mid_v52 _).trans (congrArg (fun x : FVec Ideal S4096x13 .f32 => truncf .bf16 x bitsLt_bf16_f32) (V2_arg m d main_arg1 (by decide) (by decide)))
theorem V3_v47 : (V3 m d (Proc.devRef .tc main_v47) : S26x128x512.Idx → EReal) = w1pOf (F := Ideal) (a4 m d) :=
  (V3_keep m d main_v47 (by decide) (by decide)).trans (pre_v47 _)
theorem V3_v50 : (V3 m d (Proc.devRef .tc main_v50) : S13x512.Idx → EReal) = w1nOf (F := Ideal) (a4 m d) :=
  (V3_keep m d main_v50 (by decide) (by decide)).trans (pre_v50 _)
theorem V3_v40 : (V3 m d (Proc.devRef .tc main_v40) : S512x256.Idx → EReal) = w2Of (F := Ideal) (a6 m d) (a8 m d) :=
  (V3_keep m d main_v40 (by decide) (by decide)).trans (pre_v40 _)
theorem V3_v53 : (V3 m d (Proc.devRef .tc main_v53) : S1x512.Idx → EReal) = broadcastInDim S1x512 ![1] bcast_S512_S1x512_1 (a5 m d) :=
  (mid_v53 _).trans (congrArg (fun x : FVec Ideal S512 .f32 => broadcastInDim S1x512 ![1] bcast_S512_S1x512_1 x) (V2_arg m d main_arg5 (by decide) (by decide)))
theorem V3_v54 : (V3 m d (Proc.devRef .tc main_v54) : S1x256.Idx → EReal)
    = broadcastInDim S1x256 ![1] bcast_S256_S1x256_1 (b2Of (F := Ideal) (a7 m d) (a8 m d) (a9 m d)) :=
  (mid_v54 _).trans (congrArg (fun x : FVec Ideal S256 .f32 => broadcastInDim S1x256 ![1] bcast_S256_S1x256_1 x)
    ((V2_keep m d main_v42 (by decide)).trans (pre_v42 _)))
theorem V3_v56 : (V3 m d (Proc.devRef .tc main_v56) : S256x128.Idx → EReal)
    = truncf (F := Ideal) .bf16 (transpose S256x128 [1, 0] (a10 m d) transposes_S128x256_S256x128_1_0 : FVec Ideal S256x128 .f32) bitsLt_bf16_f32 :=
  (mid_v56 _).trans (congrArg (fun x : FVec Ideal S128x256 .f32 => truncf .bf16 (transpose S256x128 [1, 0] x transposes_S128x256_S256x128_1_0 : FVec Ideal S256x128 .f32) bitsLt_bf16_f32)
    (V2_arg m d main_arg10 (by decide) (by decide)))
theorem V3_v57 : (V3 m d (Proc.devRef .tc main_v57) : S1x128.Idx → EReal) = broadcastInDim S1x128 ![1] bcast_S128_S1x128_1 (a11 m d) :=
  (mid_v57 _).trans (congrArg (fun x : FVec Ideal S128 .f32 => broadcastInDim S1x128 ![1] bcast_S128_S1x128_1 x) (V2_arg m d main_arg11 (by decide) (by decide)))
theorem V3_v59 : (V3 m d (Proc.devRef .tc main_v59) : S128x1.Idx → EReal)
    = truncf (F := Ideal) .bf16 (transpose S128x1 [1, 0] (a12 m d) transposes_S1x128_S128x1_1_0 : FVec Ideal S128x1 .f32) bitsLt_bf16_f32 :=
  (mid_v59 _).trans (congrArg (fun x : FVec Ideal S1x128 .f32 => truncf .bf16 (transpose S128x1 [1, 0] x transposes_S1x128_S128x1_1_0 : FVec Ideal S128x1 .f32) bitsLt_bf16_f32)
    (V2_arg m d main_arg12 (by decide) (by decide)))
theorem V3_v60 : (V3 m d (Proc.devRef .tc main_v60) : S1x1.Idx → EReal) = broadcastInDim S1x1 ![1] bcast_S1_S1x1_1 (a13 m d) :=
  (mid_v60 _).trans (congrArg (fun x : FVec Ideal S1 .f32 => broadcastInDim S1x1 ![1] bcast_S1_S1x1_1 x) (V2_arg m d main_arg13 (by decide) (by decide)))

/-! ## The result -/

/-- The normalization's divisor. -/
def norm : EReal := Ideal.sqrt (Ideal.ofBits .f32 0x3F800054#32)

/-- Output `k` of the first layer for sample `b`, before its bias: the numeric features' products, then every field's. -/
def firstSum (x0 : S4096x26.Idx → BitVec 32) (x1 : S4096x13.Idx → EReal) (x2 : S13x1000x50.Idx → EReal) (x3 : S13x100000x50.Idx → EReal)
    (x4 : S512x1313.Idx → EReal) (b : Fin 4096) (k : Fin 512) : EReal :=
  (∑ n : Fin 13, x1 (ix2 b n) * x4 (ix2 k ⟨1300 + n.val, by omega⟩))
    + ∑ f : Fin 26, ∑ l : Fin 50, embed x0 x2 x3 b f l * x4 (ix2 k ⟨f.val * 50 + l.val, by omega⟩)

/-- The padding's lanes add nothing. -/
theorem padded_sum (e : Fin 50 → EReal) (w : Fin 50 → EReal) :
    (∑ l : Fin 128, (if h : l.val < 50 then e ⟨l.val, h⟩ else 0) * (if h : l.val < 50 then w ⟨l.val, h⟩ else 0)) = ∑ l : Fin 50, e l * w l := by
  rw [Fin.sum_univ_two_halves 50 78 rfl]
  have z : ∀ l : Fin 78, ¬ 50 + l.val < 50 := fun l => by omega
  simp only [z, Fin.is_lt, ↓reduceDIte, mul_zero, Finset.sum_const_zero, add_zero]

theorem outOf_apply (hx : ∀ i, (a0 m d i).toNat < 1000) (b : Fin 4096) :
    outOf m d (ix1 b) = rest
      (fun i => max ((∑ k : Fin 512, max (firstSum (a0 m d) (a1 m d) (a2 m d) (a3 m d) (a4 m d) b k + a5 m d (ix1 k)) 0
          * (a8 m d (ix2 i k) * Ideal.div (a6 m d (ix1 k)) norm))
        + (a9 m d (ix1 i) + ∑ k : Fin 512, a8 m d (ix2 i k) * a7 m d (ix1 k))) 0)
      (fun i j => a10 m d (ix2 j i)) (fun j => a11 m d (ix1 j)) (fun j => a12 m d (ix2 0 j)) (a13 m d (ix1 0)) := by
  have e : outOf m d (ix1 b) = oblk (V3 m) d (ptOf (ix2 b 0)) (ix2 ⟨b.val % 512, by omega⟩ 0) := by
    unfold outOf
    generalize hg : (result (V3 m) d : FVec Ideal S4096x1 .f32) = g
    pointwise
    rw [← hg]
    refine congrArg (oblk (V3 m) d (ptOf (ix2 b 0))) (funext fun a => ?_)
    match a with
    | ⟨0, _⟩ => rfl
    | ⟨1, _⟩ => rfl
  have er : rowIn (ptOf (ix2 b 0)) ⟨b.val % 512, by omega⟩ = b := by
    refine Fin.ext ?_
    show b.val / 512 * 512 + b.val % 512 = b.val
    omega
  rw [e]
  refine (mlp_apply _ _ _ _ _ _ _ _ _ _ _ _).trans ?_
  rw [iblk_2, iblk_3, iblk_4, iblk_5, iblk_6, iblk_7, iblk_8, iblk_9, iblk_10]
  simp only [iblk_0, iblk_1, er]
  rw [V3_v51, V3_v52, V3_v47, V3_v50, V3_v40, V3_v53, V3_v54, V3_v56, V3_v57, V3_v59, V3_v60]
  simp only [gath_apply _ _ _ _ hx, w1pOf_apply, w1nOf_apply, w2Of_apply]
  have hs : ∀ k : Fin 512, (∑ n : Fin 13, a1 m d (ix2 b n) * a4 m d (ix2 k ⟨1300 + n.val, by omega⟩))
      + (∑ f : Fin 26, ∑ l : Fin 128, (if h : l.val < 50 then embed (a0 m d) (a2 m d) (a3 m d) b f ⟨l.val, h⟩ else 0)
          * (if h : l.val < 50 then a4 m d (ix2 k ⟨f.val * 50 + l.val, by omega⟩) else 0))
      = firstSum (a0 m d) (a1 m d) (a2 m d) (a3 m d) (a4 m d) b k := fun k =>
    congrArg (fun s : EReal => _ + s) (Finset.sum_congr rfl fun f _ =>
      padded_sum (embed (a0 m d) (a2 m d) (a3 m d) b f) (fun l => a4 m d (ix2 k ⟨f.val * 50 + l.val, by omega⟩)))
  simp only [hs]
  pointwise [b2Of_apply, norm]

end Cert.KernelIdeal.Run

end
-- ==== Proof.Value.Fold.lean ====
/-
  The one law of arithmetic by which the kernel's layers and the reference's agree: scaling and shifting before a linear layer is a
  rescaled layer with a larger bias.
-/
module

public import proofs.«01_k».proof.Proof.Value.Kernel
public import Mathlib.Data.EReal.Operations

@[expose] public section

noncomputable section

namespace Cert.KernelIdeal.Run

open Idealize.ShloMosaic

/-- The norm is a real number other than zero. -/
theorem norm_real : ∃ s : ℝ, s ≠ 0 ∧ norm = (s : EReal) := by
  have h : ∃ r : ℝ, 0 < r ∧ Ideal.ofBits .f32 0x3F800054#32 = (r : EReal) := by
    have hn : (BitVec.extractLsb' 31 1 0x3F800054#32 == 1#1) = false := by decide
    have he : (BitVec.extractLsb' 23 8 0x3F800054#32).toNat = 127 := by decide
    have hf : (BitVec.extractLsb' 0 23 0x3F800054#32).toNat = 84 := by decide
    refine ⟨1 * ((2 ^ 23 + 84 : ℕ) : ℝ) * (2 : ℝ) ^ (((127 : ℕ) : ℤ) - (2 ^ (8 - 1) - 1) - (23 : ℕ)), by positivity, ?_⟩
    show Ideal.ieee 8 23 0x3F800054#32 = _
    simp only [Ideal.ieee, hn, he, hf]
    rfl
  obtain ⟨r, hr, e⟩ := h
  refine ⟨Real.sqrt r, (Real.sqrt_pos.2 hr).ne', ?_⟩
  unfold norm
  rw [e, Ideal.sqrt_coe, if_neg (not_lt.2 hr.le)]

/-- Multiplying by a real number distributes over adding a real number. -/
theorem add_mul_real (a : EReal) (β w : ℝ) : (a + β) * w = a * w + (β * w : EReal) := by
  induction a with
  | coe a => rw [← EReal.coe_add, ← EReal.coe_mul, ← EReal.coe_mul, ← EReal.coe_mul, ← EReal.coe_add, add_mul]
  | top =>
    rw [EReal.top_add_coe, ← EReal.coe_mul]
    rcases lt_trichotomy w 0 with h | h | h
    · rw [EReal.top_mul_coe_of_neg h, EReal.bot_add]
    · simp [h]
    · rw [EReal.top_mul_coe_of_pos h, EReal.top_add_coe]
  | bot =>
    rw [EReal.bot_add, ← EReal.coe_mul]
    rcases lt_trichotomy w 0 with h | h | h
    · rw [EReal.bot_mul_coe_of_neg h, EReal.top_add_coe]
    · simp [h]
    · rw [EReal.bot_mul_coe_of_pos h, EReal.bot_add]

/-- One product of the second layer: the scale and the norm move onto the weight, the shift onto the bias. -/
theorem fold_term (h γ β w : EReal) (hβ : ∃ r : ℝ, β = r) (hw : ∃ r : ℝ, w = r) :
    (Ideal.div h norm * γ + β) * w = h * (w * Ideal.div γ norm) + w * β := by
  obtain ⟨s, hs, e⟩ := norm_real
  obtain ⟨β, rfl⟩ := hβ
  obtain ⟨w, rfl⟩ := hw
  rw [e, Ideal.div_coe hs, Ideal.div_coe hs, add_mul_real, mul_comm (β : EReal) w]
  refine congrArg (· + _) ?_
  rw [mul_assoc, mul_assoc]
  refine congrArg (h * ·) ?_
  rw [mul_comm, mul_assoc]
  exact mul_left_comm ..

/-- A row of the second layer, with its bias. -/
theorem fold_sum (h γ β w : Fin 512 → EReal) (c : EReal) (hβ : ∀ k, ∃ r : ℝ, β k = r) (hw : ∀ k, ∃ r : ℝ, w k = r) :
    (∑ k, (Ideal.div (h k) norm * γ k + β k) * w k) + c = (∑ k, h k * (w k * Ideal.div (γ k) norm)) + (c + ∑ k, w k * β k) := by
  rw [Finset.sum_congr rfl fun k _ => fold_term (h k) (γ k) (β k) (w k) (hβ k) (hw k), Finset.sum_add_distrib, add_assoc,
    add_comm c]

end Cert.KernelIdeal.Run

end
-- ==== Proof.Value.Reference.lean ====
/-
  The reference's feature matrix over the extended reals: each of the twenty-six category columns looked up in its own table, the
  twenty-six rows of fifty numbers side by side, and the thirteen numeric features after them.
-/
module

public import proofs.«01_k».proof.Proof.Gen.ReferenceIdeal.Run
public import proofs.«01_k».proof.Proof.Value.Block
public import proofs.«01_k».proof.Proof.Value.Rows
public import Idealize.ShloMosaic.Lib.Pointwise
public import Idealize.ShloMosaic.Lib.Pipeline.Value
public import Idealize.ShloMosaic.Lib.Routing.Ops
public import Idealize.ShloMosaic.Lib.Routing.OpsPair

@[expose] public section

noncomputable section

namespace Cert.ReferenceIdeal.Read

open Cert.ReferenceIdeal Cert.ReferenceIdeal.Gen Cert.ReferenceIdeal.Value

open Cert.KernelIdeal.Run (embed rest)

open Idealize.ShloMosaic

/-! ## One column's lookup -/

/-- Column `c` of the categorical indices. -/
def column (x0 : S4096x26.Idx → BitVec 32) (c : Fin 26) : S4096.Idx → BitVec 32 :=
  shapeCast S4096 (extractStridedSlice S4096x1 ![0, c.val] x0 ⟨rfl, fun a => by
    match a with
    | ⟨0, _⟩ => exact Nat.le_refl _
    | ⟨1, _⟩ => exact c.isLt⟩) shapeCasts_S4096x1_S4096

theorem column_apply (x0 : S4096x26.Idx → BitVec 32) (c : Fin 26) (b : Fin 4096) : column x0 c (ix1 b) = x0 (ix2 b c) := by
  pointwise [column]

/-- A column's indices as a lookup takes them: a negative one counts from the table's end. -/
def starts (n : BitVec 32) (v : S4096.Idx → BitVec 32) : S4096x1.Idx → BitVec 32 :=
  broadcastInDim S4096x1 ![0] bcast_S4096_S4096x1_0
    (select (cmpi .slt v (broadcastInDim S4096 ![] bcast_S_S4096 (constantI S_ 32 0#32)))
      (addi v (broadcastInDim S4096 ![] bcast_S_S4096 (constantI S_ 32 n))) v)

theorem starts_apply (n : BitVec 32) (v : S4096.Idx → BitVec 32) (b : Fin 4096) (h : (v (ix1 b)).toNat < 1000) :
    starts n v (ix2 b 0) = v (ix1 b) := by
  refine Eq.trans ?_ (Routing.wrap_of_lt (v (ix1 b)) (v (ix1 b) + n) (by omega))
  pointwise [starts]
  rfl

/-- Member `c` of the small tables looked up at a column's indices. -/
def smallField (x0 : S4096x26.Idx → BitVec 32) (x2 : FVec Ideal S13x1000x50 .f32) (c : Fin 13) : FVec Ideal S4096x50 .f32 :=
  Host.gather gather_S1000x50_S4096x1_S4096x50_1_0_n_n_0_1_150
    (shapeCast S1000x50 (extractStridedSlice S1x1000x50 ![c.val, 0, 0] x2 ⟨rfl, fun a => by
      match a with
      | ⟨0, _⟩ => exact c.isLt
      | ⟨1, _⟩ => exact Nat.le_refl _
      | ⟨2, _⟩ => exact Nat.le_refl _⟩) shapeCasts_S1x1000x50_S1000x50)
    (starts 1000#32 (column x0 ⟨c.val, by omega⟩))

/-- Member `c` of the large tables looked up at a column's indices. -/
def largeField (x0 : S4096x26.Idx → BitVec 32) (x3 : FVec Ideal S13x100000x50 .f32) (c : Fin 13) : FVec Ideal S4096x50 .f32 :=
  Host.gather gather_S100000x50_S4096x1_S4096x50_1_0_n_n_0_1_150
    (shapeCast S100000x50 (extractStridedSlice S1x100000x50 ![c.val, 0, 0] x3 ⟨rfl, fun a => by
      match a with
      | ⟨0, _⟩ => exact c.isLt
      | ⟨1, _⟩ =>
        show 0 + 100000 ≤ 100000
        omega
      | ⟨2, _⟩ => exact Nat.le_refl _⟩) shapeCasts_S1x100000x50_S100000x50)
    (starts 100000#32 (column x0 ⟨c.val + 13, by omega⟩))

theorem smallField_apply (x0 : S4096x26.Idx → BitVec 32) (x2 : FVec Ideal S13x1000x50 .f32) (c : Fin 13) (b : Fin 4096) (l : Fin 50)
    (h : (x0 (ix2 b ⟨c.val, by omega⟩)).toNat < 1000) :
    smallField x0 x2 c (ix2 b l) = x2 (ix3 c ⟨(x0 (ix2 b ⟨c.val, by omega⟩)).toNat % 1000, by omega⟩ l) := by
  have hc : starts 1000#32 (column x0 ⟨c.val, by omega⟩) (ix2 b 0) = x0 (ix2 b ⟨c.val, by omega⟩) :=
    (starts_apply _ _ b (by rw [column_apply]; exact h)).trans (column_apply ..)
  refine (Routing.gather_row gather_S1000x50_S4096x1_S4096x50_1_0_n_n_0_1_150 rfl rfl rfl rfl rfl _ _ b l
    ⟨(x0 (ix2 b ⟨c.val, by omega⟩)).toNat % 1000, by omega⟩ (hc.trans ?_) (by omega)).trans ?_
  · exact BitVec.eq_of_toNat_eq (by rw [BitVec.toNat_ofNat]; show _ = _ % 1000 % _; omega)
  · show shapeCast S1000x50 _ _ (ix2 _ l) = _
    pointwise

theorem largeField_apply (x0 : S4096x26.Idx → BitVec 32) (x3 : FVec Ideal S13x100000x50 .f32) (c : Fin 13) (b : Fin 4096) (l : Fin 50)
    (h : (x0 (ix2 b ⟨c.val + 13, by omega⟩)).toNat < 1000) :
    largeField x0 x3 c (ix2 b l) = x3 (ix3 c ⟨(x0 (ix2 b ⟨c.val + 13, by omega⟩)).toNat % 100000, by omega⟩ l) := by
  have hc : starts 100000#32 (column x0 ⟨c.val + 13, by omega⟩) (ix2 b 0) = x0 (ix2 b ⟨c.val + 13, by omega⟩) :=
    (starts_apply _ _ b (by rw [column_apply]; exact h)).trans (column_apply ..)
  refine (Routing.gather_row gather_S100000x50_S4096x1_S4096x50_1_0_n_n_0_1_150 rfl rfl rfl rfl rfl _ _ b l
    ⟨(x0 (ix2 b ⟨c.val + 13, by omega⟩)).toNat % 100000, by omega⟩ (hc.trans ?_) (by omega)).trans ?_
  · exact BitVec.eq_of_toNat_eq (by rw [BitVec.toNat_ofNat]; show _ = _ % 100000 % _; omega)
  · show shapeCast S100000x50 _ _ (ix2 _ l) = _
    pointwise

/-! ## The columns side by side -/

/-- Column `f`'s looked-up rows: the first thirteen columns have the small tables, the others the large ones. -/
def field (x0 : S4096x26.Idx → BitVec 32) (x2 : FVec Ideal S13x1000x50 .f32) (x3 : FVec Ideal S13x100000x50 .f32) (f : Fin 26) :
    FVec Ideal S4096x50 .f32 :=
  if h : f.val < 13 then smallField x0 x2 ⟨f.val, h⟩ else largeField x0 x3 ⟨f.val - 13, by omega⟩

theorem field_apply (x0 : S4096x26.Idx → BitVec 32) (x2 : FVec Ideal S13x1000x50 .f32) (x3 : FVec Ideal S13x100000x50 .f32)
    (hx : ∀ i, (x0 i).toNat < 1000) (f : Fin 26) (b : Fin 4096) (l : Fin 50) :
    field x0 x2 x3 f (ix2 b l) = embed x0 x2 x3 b f l := by
  unfold field embed
  split
  · exact smallField_apply x0 x2 _ b l (hx _)
  · next h =>
    have e : (⟨f.val - 13 + 13, by omega⟩ : Fin 26) = f := Fin.ext (by show f.val - 13 + 13 = f.val; omega)
    refine (largeField_apply x0 x3 _ b l (hx _)).trans ?_
    simp only [e]

section Whole

variable (V : Valuation τ sig (Elt Ideal))

/-- The launch's column `f`, as a piece of a concatenation. -/
def piece (f : Fin 26) : (s : Shape) × (s.Idx → EReal) :=
  ⟨S4096x50, field (V (Proc.devRef .tc main_arg0)) (V (Proc.devRef .tc main_arg2)) (V (Proc.devRef .tc main_arg3)) f⟩

theorem first_pieces : res_main_v286 V = concatenate S4096x800 1 (List.ofFn fun n : Fin 16 => piece V ⟨n.val, by omega⟩)
    concatenates_S4096x50_S4096x50_S4096x50_S4096x50_S4096x50_S4096x50_S4096x50_S4096x50_S4096x50_S4096x50_S4096x50_S4096x50_S4096x50_S4096x50_S4096x50_S4096x50_S4096x800_d1 := rfl

/-- The numeric features, as a piece of a concatenation. -/
def numericPiece : (s : Shape) × (s.Idx → EReal) := ⟨S4096x13, V (Proc.devRef .tc main_arg1)⟩

theorem last_pieces : res_main_v287 V = concatenate S4096x513 1
    ((List.ofFn fun n : Fin 10 => piece V ⟨n.val + 16, by omega⟩) ++ [numericPiece V])
    concatenates_S4096x50_S4096x50_S4096x50_S4096x50_S4096x50_S4096x50_S4096x50_S4096x50_S4096x50_S4096x50_S4096x13_S4096x513_d1 := rfl

/-- The extents of the first `k` pieces of the second half add up to fifty each. -/
theorem extents (k : Nat) (hk : k < 11) (xs : List ((s : Shape) × (s.Idx → EReal)))
    (hs : xs.map (·.1) = [S4096x50, S4096x50, S4096x50, S4096x50, S4096x50, S4096x50, S4096x50, S4096x50, S4096x50, S4096x50, S4096x13]) :
    (((xs.take k).map (·.1)).map fun s => if h : s.rank = S4096x513.rank then s.size ((1 : Fin S4096x513.rank).cast h.symm) else 0).sum
      = k * 50 := by
  rw [List.map_take, hs]
  revert k
  decide

/-- The feature matrix. -/
def features : FVec Ideal S4096x1313 .f32 :=
  concatenate S4096x1313 1 [⟨S4096x800, res_main_v286 V⟩, ⟨S4096x513, res_main_v287 V⟩] concatenates_S4096x800_S4096x513_S4096x1313_d1

theorem first_apply (b : Fin 4096) (n : Fin 16) (l : Fin 50) :
    res_main_v286 V (ix2 b ⟨n.val * 50 + l.val, by omega⟩) = (piece V ⟨n.val, by omega⟩).2 (ix2 b l) := by
  rw [first_pieces]
  refine concatenate_ofFn_apply (t := S4096x800) (s₁ := S4096x50) 1 (fun n : Fin 16 => (piece V ⟨n.val, by omega⟩).2) _ rfl 50 rfl
    _ n ?_ _ ?_ ?_
  · show (n.val * 50 + l.val) / 50 = n.val
    omega
  · show l.val = (n.val * 50 + l.val) % 50
    omega
  · intro a ha
    match a with
    | ⟨0, _⟩ => rfl
    | ⟨1, _⟩ => exact absurd rfl ha

theorem last_apply (b : Fin 4096) (n : Fin 10) (l : Fin 50) :
    res_main_v287 V (ix2 b ⟨n.val * 50 + l.val, by omega⟩) = (piece V ⟨n.val + 16, by omega⟩).2 (ix2 b l) := by
  rw [last_pieces]
  refine concatenate_apply_piece (t := S4096x513) 1 _ _ _ n.val (by simp; omega) S4096x50 (piece V ⟨n.val + 16, by omega⟩).2 ?_ rfl (n.val * 50)
    (extents n.val (by omega) _ rfl) _ ?_ rfl
  · rw [List.getElem_append_left (by simp), List.getElem_ofFn]
    rfl
  · intro a ha
    match a with
    | ⟨0, _⟩ => rfl
    | ⟨1, _⟩ => exact absurd rfl ha

theorem numeric_apply (b : Fin 4096) (n : Fin 13) :
    res_main_v287 V (ix2 b ⟨500 + n.val, by omega⟩) = V (Proc.devRef .tc main_arg1) (ix2 b n) := by
  rw [last_pieces]
  refine concatenate_apply_piece (t := S4096x513) 1 _ _ _ 10 (by simp) S4096x13 (V (Proc.devRef .tc main_arg1)) rfl rfl 500
    (extents 10 (by omega) _ rfl) _ ?_ rfl
  intro a ha
  match a with
  | ⟨0, _⟩ => rfl
  | ⟨1, _⟩ => exact absurd rfl ha

/-- The feature matrix at an embedding's place. -/
theorem features_embed (hx : ∀ i, (V (Proc.devRef .tc main_arg0) i).toNat < 1000) (b : Fin 4096) (f : Fin 26) (l : Fin 50) :
    features V (ix2 b ⟨f.val * 50 + l.val, by omega⟩)
      = embed (V (Proc.devRef .tc main_arg0)) (V (Proc.devRef .tc main_arg2)) (V (Proc.devRef .tc main_arg3)) b f l := by
  refine Eq.trans ?_ (field_apply _ _ _ hx f b l)
  unfold features
  by_cases h : f.val < 16
  · refine (concatenate_pair_apply_left (t := S4096x1313) (s₁ := S4096x800) 1 _ _ _ _ rfl (ix2 b (⟨f.val * 50 + l.val, by omega⟩ : Fin 800)) ?_).trans
      (first_apply V b ⟨f.val, h⟩ l)
    intro a
    match a with
    | ⟨0, _⟩ => rfl
    | ⟨1, _⟩ => rfl
  · have e : (⟨f.val - 16 + 16, by omega⟩ : Fin 26) = f := Fin.ext (by show f.val - 16 + 16 = f.val; omega)
    refine (concatenate_pair_apply_right (t := S4096x1313) (s₁ := S4096x800) (s₂ := S4096x513) 1 _ _ _ _ rfl rfl
      (ix2 b (⟨(f.val - 16) * 50 + l.val, by omega⟩ : Fin 513)) ?_ ?_).trans ((last_apply V b ⟨f.val - 16, by omega⟩ l).trans ?_)
    · intro a ha
      match a with
      | ⟨0, _⟩ => rfl
      | ⟨1, _⟩ => exact absurd rfl ha
    · show (f.val - 16) * 50 + l.val + 800 = f.val * 50 + l.val
      omega
    · show (piece V ⟨f.val - 16 + 16, _⟩).2 _ = _
      rw [e]
      rfl

/-- The feature matrix at a numeric feature's place. -/
theorem features_numeric (b : Fin 4096) (n : Fin 13) :
    features V (ix2 b ⟨1300 + n.val, by omega⟩) = V (Proc.devRef .tc main_arg1) (ix2 b n) := by
  unfold features
  refine (concatenate_pair_apply_right (t := S4096x1313) (s₁ := S4096x800) (s₂ := S4096x513) 1 _ _ _ _ rfl rfl (ix2 b (⟨500 + n.val, by omega⟩ : Fin 513)) ?_ ?_).trans
    (numeric_apply V b n)
  · intro a ha
    match a with
    | ⟨0, _⟩ => rfl
    | ⟨1, _⟩ => exact absurd rfl ha
  · show 500 + n.val + 800 = 1300 + n.val
    omega

end Whole

end Cert.ReferenceIdeal.Read

end
-- ==== Proof.Value.Layers.lean ====
/-
  The reference's four layers read at one sample, and its result as a function of the arguments.
-/
module

public import proofs.«01_k».proof.Proof.Value.Kernel
public import proofs.«01_k».proof.Proof.Value.Reference

@[expose] public section

noncomputable section

namespace Cert.ReferenceIdeal.Read

open Cert.ReferenceIdeal Cert.ReferenceIdeal.Gen Cert.ReferenceIdeal.Value

open Cert.KernelIdeal.Run (embed rest firstSum norm)

open Idealize.ShloMosaic

/-! ## The layers -/

/-- The first layer after its activation, shifted by nothing, divided by the norm, scaled and shifted. -/
def normalized (X : FVec Ideal S4096x1313 .f32) (x4 : FVec Ideal S512x1313 .f32) (x5 x6 x7 : FVec Ideal S512 .f32) : FVec Ideal S4096x512 .f32 :=
  addf (mulf (Host.divf (subf (maximumf (addf (Host.dotGeneral dot_S4096x1313_S1313x512_S4096x512_1_0_0_1_n_n none X
              (transpose S1313x512 [1, 0] x4 transposes_S512x1313_S1313x512_1_0))
            (broadcastInDim S4096x512 ![0, 1] bcast_S1x512_S4096x512_0_1 (broadcastInDim S1x512 ![1] bcast_S512_S1x512_1 x5)))
          (broadcastInDim S4096x512 ![] bcast_S_S4096x512 (constant S_ .f32 0x00000000#32)))
        (broadcastInDim S4096x512 ![] bcast_S_S4096x512 (constant S_ .f32 0x00000000#32)))
      (broadcastInDim S4096x512 ![] bcast_S_S4096x512 (id (Host.sqrt (constant S_ .f32 0x3F800054#32)))))
    (broadcastInDim S4096x512 ![0, 1] bcast_S1x512_S4096x512_0_1 (broadcastInDim S1x512 ![1] bcast_S512_S1x512_1 x6)))
  (broadcastInDim S4096x512 ![0, 1] bcast_S1x512_S4096x512_0_1 (broadcastInDim S1x512 ![1] bcast_S512_S1x512_1 x7))

/-- The second, third and last layer. -/
def upper (Y : FVec Ideal S4096x512 .f32) (x8 : FVec Ideal S256x512 .f32) (x9 : FVec Ideal S256 .f32) (x10 : FVec Ideal S128x256 .f32)
    (x11 : FVec Ideal S128 .f32) (x12 : FVec Ideal S1x128 .f32) (x13 : FVec Ideal S1 .f32) : FVec Ideal S4096 .f32 :=
  shapeCast _ (addf (Host.dotGeneral dot_S4096x128_S128x1_S4096x1_1_0_0_1_n_n none
      (maximumf (addf (Host.dotGeneral dot_S4096x256_S256x128_S4096x128_1_0_0_1_n_n none
          (maximumf (addf (Host.dotGeneral dot_S4096x512_S512x256_S4096x256_1_0_0_1_n_n none Y
                (transpose S512x256 [1, 0] x8 transposes_S256x512_S512x256_1_0))
              (broadcastInDim S4096x256 ![0, 1] bcast_S1x256_S4096x256_0_1 (broadcastInDim S1x256 ![1] bcast_S256_S1x256_1 x9)))
            (broadcastInDim S4096x256 ![] bcast_S_S4096x256 (constant S_ .f32 0x00000000#32)))
          (transpose S256x128 [1, 0] x10 transposes_S128x256_S256x128_1_0))
        (broadcastInDim S4096x128 ![0, 1] bcast_S1x128_S4096x128_0_1 (broadcastInDim S1x128 ![1] bcast_S128_S1x128_1 x11)))
      (broadcastInDim S4096x128 ![] bcast_S_S4096x128 (constant S_ .f32 0x00000000#32)))
    (transpose S128x1 [1, 0] x12 transposes_S1x128_S128x1_1_0))
  (broadcastInDim S4096x1 ![0, 1] bcast_S1x1_S4096x1_0_1 (broadcastInDim S1x1 ![1] bcast_S1_S1x1_1 x13))) shapeCasts_S4096x1_S4096

theorem upper_apply (Y : FVec Ideal S4096x512 .f32) (x8 : FVec Ideal S256x512 .f32) (x9 : FVec Ideal S256 .f32) (x10 : FVec Ideal S128x256 .f32)
    (x11 : FVec Ideal S128 .f32) (x12 : FVec Ideal S1x128 .f32) (x13 : FVec Ideal S1 .f32) (b : Fin 4096) :
    upper Y x8 x9 x10 x11 x12 x13 (ix1 b)
      = rest (fun i => max ((∑ k : Fin 512, Y (ix2 b k) * x8 (ix2 i k)) + x9 (ix1 i)) 0)
          (fun i j => x10 (ix2 j i)) (fun j => x11 (ix1 j)) (fun j => x12 (ix2 0 j)) (x13 (ix1 0)) := by
  pointwise [upper, rest]

theorem normalized_apply (X : FVec Ideal S4096x1313 .f32) (x4 : FVec Ideal S512x1313 .f32) (x5 x6 x7 : FVec Ideal S512 .f32)
    (b : Fin 4096) (k : Fin 512) :
    normalized X x4 x5 x6 x7 (ix2 b k)
      = Ideal.div (max ((∑ q : Fin 1313, X (ix2 b q) * x4 (ix2 k q)) + x5 (ix1 k)) 0) norm * x6 (ix1 k) + x7 (ix1 k) := by
  pointwise [normalized, Cert.KernelIdeal.Run.norm]
  rfl

/-- A sum over a feature row: the twenty-six embeddings' places, then the numeric features'. -/
theorem sum_row (g : Fin 1313 → EReal) :
    ∑ q, g q = (∑ n : Fin 13, g ⟨1300 + n.val, by omega⟩) + ∑ f : Fin 26, ∑ l : Fin 50, g ⟨f.val * 50 + l.val, by omega⟩ := by
  rw [Fin.sum_univ_two_halves 1300 13 rfl, add_comm]
  refine congrArg₂ (· + ·) rfl ?_
  rw [← Fintype.sum_prod_type' fun (f : Fin 26) (l : Fin 50) => g ⟨f.val * 50 + l.val, by omega⟩]
  refine (Fintype.sum_equiv (finProdFinEquiv (m := 26) (n := 50)) _ (fun q : Fin 1300 => g ⟨q.val, by omega⟩) fun p => ?_).symm
  refine congrArg g (Fin.ext ?_)
  show p.1.val * 50 + p.2.val = p.2.val + 50 * p.1.val
  omega

theorem features_sum (V : Valuation τ sig (Elt Ideal)) (hx : ∀ i, (V (Proc.devRef .tc main_arg0) i).toNat < 1000)
    (x4 : FVec Ideal S512x1313 .f32) (b : Fin 4096) (k : Fin 512) :
    ∑ q : Fin 1313, features V (ix2 b q) * x4 (ix2 k q)
      = firstSum (V (Proc.devRef .tc main_arg0)) (V (Proc.devRef .tc main_arg1)) (V (Proc.devRef .tc main_arg2))
          (V (Proc.devRef .tc main_arg3)) x4 b k := by
  rw [sum_row]
  simp only [features_numeric, features_embed V hx]
  rfl

end Cert.ReferenceIdeal.Read

end
-- ==== Proof.Value.Agree.lean ====
/-
  The kernel's result over the extended reals is the reference's.
-/
module

public import proofs.«01_k».proof.Proof.Finite
public import proofs.«01_k».proof.Proof.Value.Fold
public import proofs.«01_k».proof.Proof.Value.Layers

@[expose] public section

noncomputable section

namespace Cert.Proof

open Idealize.ShloMosaic Idealize.SL.Sem

/-! ## What the precondition says of the two bounded arguments -/

theorem infinity : Ideal.ofBits .f32 0x7F800000#32 = ⊤ := by
  have hn : (BitVec.extractLsb' 31 1 0x7F800000#32 == 1#1) = false := by decide
  have he : (BitVec.extractLsb' 23 8 0x7F800000#32).toNat = 255 := by decide
  have hf : (BitVec.extractLsb' 0 23 0x7F800000#32).toNat = 0 := by decide
  show Ideal.ieee 8 23 0x7F800000#32 = _
  simp only [Ideal.ieee, hn, he, hf]
  rfl

/-- A value whose magnitude compares below infinity is a real number. -/
theorem real_of_below (x : EReal) (h : BitVec.ofBool (decide (max x (-x) < Ideal.ofBits .f32 0x7F800000#32)) = 1#1) :
    ∃ r : ℝ, x = r := by
  rw [infinity] at h
  have h' : max x (-x) < ⊤ := by
    by_contra hn
    rw [decide_eq_false hn] at h
    exact absurd h (by decide)
  obtain ⟨h1, h2⟩ := max_lt_iff.1 h'
  induction x with
  | coe r => exact ⟨r, rfl⟩
  | top => exact absurd h1 (lt_irrefl _)
  | bot => exact absurd h2 (by simp)

theorem beta_real {x0 x1 x2 x3 x4 x5 x6 x7 x8 x9 x10 x11 x12 x13}
    (h : (Cert.Pre_in_range_and_finite.fn (F := Ideal) x0 x1 x2 x3 x4 x5 x6 x7 x8 x9 x10 x11 x12 x13).2.1 = fun _ => 1#1)
    (k : Fin 512) : ∃ r : ℝ, x7 (ix1 k) = r := by
  have e := congrFun h (ix1 k)
  pointwise [Cert.Pre_in_range_and_finite.fn] at e
  exact real_of_below _ e

theorem weight_real {x0 x1 x2 x3 x4 x5 x6 x7 x8 x9 x10 x11 x12 x13}
    (h : (Cert.Pre_in_range_and_finite.fn (F := Ideal) x0 x1 x2 x3 x4 x5 x6 x7 x8 x9 x10 x11 x12 x13).2.2 = fun _ => 1#1)
    (i : Fin 256) (k : Fin 512) : ∃ r : ℝ, x8 (ix2 i k) = r := by
  have e := congrFun h (ix2 i k)
  pointwise [Cert.Pre_in_range_and_finite.fn] at e
  exact real_of_below _ e

/-! ## The two results -/

open Cert.KernelIdeal.Run in
/-- The reference's result, as a function of its arguments' contents. -/
theorem reference_apply (V : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (h0 : V (Proc.devRef .tc Cert.ReferenceIdeal.main_arg0) = a0 m c) (h1 : V (Proc.devRef .tc Cert.ReferenceIdeal.main_arg1) = a1 m c)
    (h2 : V (Proc.devRef .tc Cert.ReferenceIdeal.main_arg2) = a2 m c) (h3 : V (Proc.devRef .tc Cert.ReferenceIdeal.main_arg3) = a3 m c)
    (h4 : V (Proc.devRef .tc Cert.ReferenceIdeal.main_arg4) = a4 m c) (h5 : V (Proc.devRef .tc Cert.ReferenceIdeal.main_arg5) = a5 m c)
    (h6 : V (Proc.devRef .tc Cert.ReferenceIdeal.main_arg6) = a6 m c) (h7 : V (Proc.devRef .tc Cert.ReferenceIdeal.main_arg7) = a7 m c)
    (h8 : V (Proc.devRef .tc Cert.ReferenceIdeal.main_arg8) = a8 m c) (h9 : V (Proc.devRef .tc Cert.ReferenceIdeal.main_arg9) = a9 m c)
    (h10 : V (Proc.devRef .tc Cert.ReferenceIdeal.main_arg10) = a10 m c) (h11 : V (Proc.devRef .tc Cert.ReferenceIdeal.main_arg11) = a11 m c)
    (h12 : V (Proc.devRef .tc Cert.ReferenceIdeal.main_arg12) = a12 m c) (h13 : V (Proc.devRef .tc Cert.ReferenceIdeal.main_arg13) = a13 m c)
    (hx : ∀ i, (a0 m c i).toNat < 1000) (hβ : ∀ k, ∃ r : ℝ, a7 m c (ix1 k) = r) (hw : ∀ i k, ∃ r : ℝ, a8 m c (ix2 i k) = r) :
    Cert.ReferenceIdeal.Read.upper
        (Cert.ReferenceIdeal.Read.normalized (Cert.ReferenceIdeal.Read.features V) (V (Proc.devRef .tc Cert.ReferenceIdeal.main_arg4))
          (V (Proc.devRef .tc Cert.ReferenceIdeal.main_arg5)) (V (Proc.devRef .tc Cert.ReferenceIdeal.main_arg6)) (V (Proc.devRef .tc Cert.ReferenceIdeal.main_arg7)))
        (V (Proc.devRef .tc Cert.ReferenceIdeal.main_arg8)) (V (Proc.devRef .tc Cert.ReferenceIdeal.main_arg9)) (V (Proc.devRef .tc Cert.ReferenceIdeal.main_arg10))
        (V (Proc.devRef .tc Cert.ReferenceIdeal.main_arg11)) (V (Proc.devRef .tc Cert.ReferenceIdeal.main_arg12)) (V (Proc.devRef .tc Cert.ReferenceIdeal.main_arg13)) = outOf m c := by
  rw [h4, h5, h6, h7, h8, h9, h10, h11, h12, h13]
  funext i
  idx_vars i
  rw [Cert.ReferenceIdeal.Read.upper_apply, outOf_apply m c hx]
  refine congrArg (fun t => rest t _ _ _ _) (funext fun i => congrArg (max · 0) ?_)
  refine Eq.trans ?_ (fold_sum _ (fun k => a6 m c (ix1 k)) (fun k => a7 m c (ix1 k)) (fun k => a8 m c (ix2 i k)) _ hβ (hw i))
  refine congrArg (· + _) (Finset.sum_congr rfl fun k _ => congrArg (· * _) ?_)
  rw [Cert.ReferenceIdeal.Read.normalized_apply, Cert.ReferenceIdeal.Read.features_sum V (by rw [h0]; exact hx), h0, h1, h2, h3]

theorem algebraic : Cert.algebraic_KernelIdeal_ReferenceIdeal_pre_in_range_and_finite := by
  intro m g m' g' h hargs
  have hx := fun d i => small_of_finite (h d).1 i
  refine ⟨fun c => Cert.KernelIdeal.Run.outOf m c, ?_, ?_⟩
  · exact (θ_run Cert.KernelIdeal.defs _ _).mono (fun _ r => r.1) (Cert.KernelIdeal.Run.run_args m g (Cert.KernelIdeal.Run.idx_lt m hx))
  · refine (θ_run Cert.ReferenceIdeal.defs _ _).mono (fun r q c => ⟨(q c).1.trans ?_, (q c).2⟩) (Cert.ReferenceIdeal.Value.run m' g')
    obtain ⟨e0, e1, e2, e3, e4, e5, e6, e7, e8, e9, e10, e11, e12, e13⟩ := hargs c
    exact reference_apply (StableHlo.launchContents m' c) m c e0 e1 e2 e3 e4 e5 e6 e7 e8 e9 e10 e11 e12 e13 (hx c) (beta_real (h c).2.1)
      (weight_real (h c).2.2)

end Cert.Proof

end
-- ==== Proof.lean ====
/-
  The certificate: the kernel as it stands and its reading over the extended reals run to a quiescent end with their arguments unchanged,
  the two are one program, the reference's frame holds, and over the extended reals the kernel's result is the reference's.
-/
module

public import proofs.«01_k».proof.Defs
public import proofs.«01_k».proof.Proof.Frames
public import proofs.«01_k».proof.Proof.Finite
public import proofs.«01_k».proof.Proof.Value.Agree

@[expose] public section

namespace Cert.Proof

/-- `Cert.Claim` (Defs.lean). -/
theorem claim : Cert.Claim :=
  ⟨Cert.Kernel.Gen.facts, Cert.KernelIdeal.Gen.facts, Cert.ReferenceIdeal.Gen.facts, Cert.Pre_in_range.Gen.facts,
    Cert.Pre_in_range_and_finite.Gen.facts, frame_kernel, frame_ideal, frame_ideal_finite, frame_reference, frame_reference_finite, trivial,
    algebraic⟩

end Cert.Proof
